-- ==== Defs.lean ====
def Pre_Kernel [hPre_index_in_vocab : Cert.Pre_index_in_vocab.Facts] (m : (ℓ : Loc Cert.Kernel.nD Cert.Kernel.τ Cert.Kernel.sig) → Buf (Elt Bits) ℓ) : Prop :=
  ∀ c : Dev Cert.Kernel.nD,
    (Cert.Pre_index_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_index_in_vocab : Cert.Pre_index_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_in_vocab [hPre_index_in_vocab : Cert.Pre_index_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_index_in_vocab : Cert.Pre_index_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_index_in_vocab : Cert.Pre_index_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_index_in_vocab [hReferenceIdeal : Cert.ReferenceIdeal.Facts] [hPre_index_in_vocab : Cert.Pre_index_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_in_vocab : Cert.Pre_index_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_index_in_vocab : Cert.Pre_index_in_vocab.Facts),
    quiescent_Kernel (hKernel := hKernel) (hPre_index_in_vocab := hPre_index_in_vocab)
    ∧ quiescent_KernelIdeal (hKernelIdeal := hKernelIdeal) (hPre_index_in_vocab := hPre_index_in_vocab)
    ∧ quiescent_ReferenceIdeal (hReferenceIdeal := hReferenceIdeal)
    ∧ quiescent_ReferenceIdeal_pre_index_in_vocab (hReferenceIdeal := hReferenceIdeal) (hPre_index_in_vocab := hPre_index_in_vocab)
    ∧ preserves_Kernel_KernelIdeal
    ∧ algebraic_KernelIdeal_ReferenceIdeal (hKernelIdeal := hKernelIdeal) (hReferenceIdeal := hReferenceIdeal) (hPre_index_in_vocab := hPre_index_in_vocab)
-- ==== Pre_index_in_vocab.lean ====
abbrev S1000 : Shape := ⟨1, ![1000]⟩
abbrev S16384x200 : Shape := ⟨2, ![16384, 200]⟩
abbrev S_ : Shape := ⟨0, ![]⟩

class Facts : Prop where
  bcast_S_S16384x200 : S_.BroadcastsInDim S16384x200 (![] : Fin 0 → Fin S16384x200.rank)

variable [Facts]

def fn {F : FTy → Type} [FloatOps F] (main_arg0 : FVec F S1000 .f32) (main_arg1 : IVec S1000 32) (main_arg2 : IVec S16384x200 32) (main_arg3 : FVec F S16384x200 .f32) : IVec S16384x200 1 :=
  let main_c : IVec S_ 32 := constantI S_ 32 0#32
  let main_v0 : IVec S16384x200 32 := broadcastInDim S16384x200 ![] bcast_S_S16384x200 main_c
  let main_v1 : IVec S16384x200 1 := cmpi .sge main_arg2 main_v0
  let main_c_0 : IVec S_ 32 := constantI S_ 32 1000#32
  let main_v2 : IVec S16384x200 32 := broadcastInDim S16384x200 ![] bcast_S_S16384x200 main_c_0
  let main_v3 : IVec S16384x200 1 := cmpi .slt main_arg2 main_v2
  let main_v4 : IVec S16384x200 1 := andi main_v1 main_v3
  main_v4
-- ==== Kernel.lean ====
abbrev S1000 : Shape := ⟨1, ![1000]⟩
abbrev S16384x200 : Shape := ⟨2, ![16384, 200]⟩
abbrev S_ : Shape := ⟨0, ![]⟩
abbrev S1024 : Shape := ⟨1, ![1024]⟩
abbrev S200x16384 : Shape := ⟨2, ![200, 16384]⟩
abbrev S8x512 : Shape := ⟨2, ![8, 512]⟩
abbrev S16 : Shape := ⟨1, ![16]⟩
abbrev S1x16 : Shape := ⟨2, ![1, 16]⟩

abbrev nBuf : Table → Nat
  | .hbm => 14
  | .local .scVector .vmem => 11
  | _ => 0

abbrev bufTy : (tb : Table) → Fin (nBuf tb) → BufTy
  | .hbm, ⟨0, _⟩ => ⟨S1000, .f32⟩
  | .hbm, ⟨1, _⟩ => ⟨S1000, .i32⟩
  | .hbm, ⟨2, _⟩ => ⟨S16384x200, .i32⟩
  | .hbm, ⟨3, _⟩ => ⟨S16384x200, .f32⟩
  | .hbm, ⟨4, _⟩ => ⟨S_, .i32⟩
  | .hbm, ⟨5, _⟩ => ⟨S_, .f32⟩
  | .hbm, ⟨6, _⟩ => ⟨S1024, .f32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S200x16384, .i32⟩
  | .hbm, ⟨11, _⟩ => ⟨S200x16384, .f32⟩
  | .hbm, ⟨12, _⟩ => ⟨S200x16384, .i32⟩
  | .hbm, ⟨13, _⟩ => ⟨S16384x200, .i32⟩
  | .local .scVector .vmem, ⟨0, _⟩ => ⟨S1024, .f32⟩
  | .local .scVector .vmem, ⟨1, _⟩ => ⟨S1024, .i32⟩
  | .local .scVector .vmem, ⟨2, _⟩ => ⟨S8x512, .i32⟩
  | .local .scVector .vmem, ⟨3, _⟩ => ⟨S8x512, .i32⟩
  | .local .scVector .vmem, ⟨4, _⟩ => ⟨S8x512, .i32⟩
  | .local .scVector .vmem, ⟨5, _⟩ => ⟨S8x512, .f32⟩
  | .local .scVector .vmem, ⟨6, _⟩ => ⟨S8x512, .f32⟩
  | .local .scVector .vmem, ⟨7, _⟩ => ⟨S8x512, .f32⟩
  | .local .scVector .vmem, ⟨8, _⟩ => ⟨S8x512, .i32⟩
  | .local .scVector .vmem, ⟨9, _⟩ => ⟨S8x512, .i32⟩
  | .local .scVector .vmem, ⟨10, _⟩ => ⟨S8x512, .i32⟩
  | _, _ => ⟨S1000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v0_scv : Ref sig .scVector := ⟨.hbm, 6, rfl⟩
abbrev main_v1_scv : Ref sig .scVector := ⟨.hbm, 9, rfl⟩
abbrev main_v2_scv : Ref sig .scVector := ⟨.hbm, 10, rfl⟩
abbrev main_v3_scv : Ref sig .scVector := ⟨.hbm, 11, rfl⟩
abbrev main_v4_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k0_off2 (i : grid0.Coords) : Fin 2 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![8, v2.toNat]
def k0_off3 (i : grid0.Coords) : Fin 2 → Nat :=
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![16, v2.toNat]
@[reducible] def k0_t1_loop : Scf.Loop 32 :=
  let c0_i32_10 : BitVec 32 := 0#32
  let c8_i32_11 : BitVec 32 := 8#32
  let v15 : BitVec 32 := Scalar.addi c0_i32_10 c8_i32_11
  let c1_i32 : BitVec 32 := 1#32
  ⟨c0_i32_10, v15, c1_i32⟩
def k0_off4 (i : grid0.Coords) : Fin 2 → Nat :=
  let c0_i32_30 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k0_cond1 (k0_t1 : Fin k0_t1_loop.trips) : BitVec 1 :=
  let c0_i32_10 : BitVec 32 := 0#32
  let c1_i32 : BitVec 32 := 1#32
  let arg29 : BitVec 32 := Scf.iv c0_i32_10 c1_i32 k0_t1
  let c0_i32_34 : BitVec 32 := 0#32
  let v38 : BitVec 1 := Scalar.cmpi .sgt arg29 c0_i32_34
  let v39 : BitVec 32 := Scalar.extui v38
  let c0_i32_35 : BitVec 32 := 0#32
  let v40 : BitVec 1 := Scalar.cmpi .ne v39 c0_i32_35
  v40

def k0_off5 (i : grid0.Coords) : Fin 2 → Nat :=
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k0_t2_loop : Scf.Loop 32 :=
  let c0_i32_36 : BitVec 32 := 0#32
  let c32_i32_37 : BitVec 32 := 32#32
  let v41 : BitVec 32 := Scalar.addi c0_i32_36 c32_i32_37
  let c1_i32_38 : BitVec 32 := 1#32
  ⟨c0_i32_36, v41, c1_i32_38⟩
def k0_off6 (k0_t2 : Fin k0_t2_loop.trips) : Fin 2 → Nat :=
  let c0_i32_77 : BitVec 32 := 0#32
  let v84 : Index := Scalar.indexCast c0_i32_77
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v85 : Index := Scalar.indexCast v83
  ![0, v85.toNat]

def k0_chk1 (v86 : IVec S16 32) : Prop :=
  (∀ a x, ((![v86] : Fin 1 → IVec S16 32) a x).toNat < S1024.size a) ∧
  (∀ a x, ((![v86] : Fin 1 → IVec S16 32) a x).toNat < S1024.size a)
theorem k0_idx1_inb : ∀ (v86 : IVec S16 32) (k0_hw1 : k0_chk1 v86), ∀ a x, ((![v86] : Fin 1 → IVec S16 32) a x).toNat < S1024.size a := fun v86 k0_hw1 => k0_hw1.1
theorem k0_idx2_inb : ∀ (v86 : IVec S16 32) (k0_hw1 : k0_chk1 v86), ∀ a x, ((![v86] : Fin 1 → IVec S16 32) a x).toNat < S1024.size a := fun v86 k0_hw1 => k0_hw1.2
def k0_off7 (k0_t2 : Fin k0_t2_loop.trips) : Fin 2 → Nat :=
  let c0_i32_79 : BitVec 32 := 0#32
  let v94 : Index := Scalar.indexCast c0_i32_79
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v95 : Index := Scalar.indexCast v83
  ![0, v95.toNat]
def k0_off8 (k0_t2 : Fin k0_t2_loop.trips) : Fin 2 → Nat :=
  let c1_i32_80 : BitVec 32 := 1#32
  let v97 : Index := Scalar.indexCast c1_i32_80
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v98 : Index := Scalar.indexCast v83
  ![1, v98.toNat]

def k0_chk2 (v99 : IVec S16 32) : Prop :=
  (∀ a x, ((![v99] : Fin 1 → IVec S16 32) a x).toNat < S1024.size a) ∧
  (∀ a x, ((![v99] : Fin 1 → IVec S16 32) a x).toNat < S1024.size a)
theorem k0_idx3_inb : ∀ (v99 : IVec S16 32) (k0_hw2 : k0_chk2 v99), ∀ a x, ((![v99] : Fin 1 → IVec S16 32) a x).toNat < S1024.size a := fun v99 k0_hw2 => k0_hw2.1
theorem k0_idx4_inb : ∀ (v99 : IVec S16 32) (k0_hw2 : k0_chk2 v99), ∀ a x, ((![v99] : Fin 1 → IVec S16 32) a x).toNat < S1024.size a := fun v99 k0_hw2 => k0_hw2.2
def k0_off9 (k0_t2 : Fin k0_t2_loop.trips) : Fin 2 → Nat :=
  let c1_i32_82 : BitVec 32 := 1#32
  let v107 : Index := Scalar.indexCast c1_i32_82
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v108 : Index := Scalar.indexCast v83
  ![1, v108.toNat]
def k0_off10 (k0_t2 : Fin k0_t2_loop.trips) : Fin 2 → Nat :=
  let c2_i32_83 : BitVec 32 := 2#32
  let v110 : Index := Scalar.indexCast c2_i32_83
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v111 : Index := Scalar.indexCast v83
  ![2, v111.toNat]

def k0_chk3 (v112 : IVec S16 32) : Prop :=
  (∀ a x, ((![v112] : Fin 1 → IVec S16 32) a x).toNat < S1024.size a) ∧
  (∀ a x, ((![v112] : Fin 1 → IVec S16 32) a x).toNat < S1024.size a)
theorem k0_idx5_inb : ∀ (v112 : IVec S16 32) (k0_hw3 : k0_chk3 v112), ∀ a x, ((![v112] : Fin 1 → IVec S16 32) a x).toNat < S1024.size a := fun v112 k0_hw3 => k0_hw3.1
theorem k0_idx6_inb : ∀ (v112 : IVec S16 32) (k0_hw3 : k0_chk3 v112), ∀ a x, ((![v112] : Fin 1 → IVec S16 32) a x).toNat < S1024.size a := fun v112 k0_hw3 => k0_hw3.2
def k0_off11 (k0_t2 : Fin k0_t2_loop.trips) : Fin 2 → Nat :=
  let c2_i32_85 : BitVec 32 := 2#32
  let v120 : Index := Scalar.indexCast c2_i32_85
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v121 : Index := Scalar.indexCast v83
  ![2, v121.toNat]
def k0_off12 (k0_t2 : Fin k0_t2_loop.trips) : Fin 2 → Nat :=
  let c3_i32_86 : BitVec 32 := 3#32
  let v123 : Index := Scalar.indexCast c3_i32_86
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v124 : Index := Scalar.indexCast v83
  ![3, v124.toNat]

def k0_chk4 (v125 : IVec S16 32) : Prop :=
  (∀ a x, ((![v125] : Fin 1 → IVec S16 32) a x).toNat < S1024.size a) ∧
  (∀ a x, ((![v125] : Fin 1 → IVec S16 32) a x).toNat < S1024.size a)
theorem k0_idx7_inb : ∀ (v125 : IVec S16 32) (k0_hw4 : k0_chk4 v125), ∀ a x, ((![v125] : Fin 1 → IVec S16 32) a x).toNat < S1024.size a := fun v125 k0_hw4 => k0_hw4.1
theorem k0_idx8_inb : ∀ (v125 : IVec S16 32) (k0_hw4 : k0_chk4 v125), ∀ a x, ((![v125] : Fin 1 → IVec S16 32) a x).toNat < S1024.size a := fun v125 k0_hw4 => k0_hw4.2
def k0_off13 (k0_t2 : Fin k0_t2_loop.trips) : Fin 2 → Nat :=
  let c3_i32_88 : BitVec 32 := 3#32
  let v133 : Index := Scalar.indexCast c3_i32_88
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v134 : Index := Scalar.indexCast v83
  ![3, v134.toNat]
def k0_off14 (k0_t2 : Fin k0_t2_loop.trips) : Fin 2 → Nat :=
  let c4_i32 : BitVec 32 := 4#32
  let v136 : Index := Scalar.indexCast c4_i32
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v137 : Index := Scalar.indexCast v83
  ![4, v137.toNat]

def k0_chk5 (v138 : IVec S16 32) : Prop :=
  (∀ a x, ((![v138] : Fin 1 → IVec S16 32) a x).toNat < S1024.size a) ∧
  (∀ a x, ((![v138] : Fin 1 → IVec S16 32) a x).toNat < S1024.size a)
theorem k0_idx9_inb : ∀ (v138 : IVec S16 32) (k0_hw5 : k0_chk5 v138), ∀ a x, ((![v138] : Fin 1 → IVec S16 32) a x).toNat < S1024.size a := fun v138 k0_hw5 => k0_hw5.1
theorem k0_idx10_inb : ∀ (v138 : IVec S16 32) (k0_hw5 : k0_chk5 v138), ∀ a x, ((![v138] : Fin 1 → IVec S16 32) a x).toNat < S1024.size a := fun v138 k0_hw5 => k0_hw5.2
def k0_off15 (k0_t2 : Fin k0_t2_loop.trips) : Fin 2 → Nat :=
  let c4_i32_90 : BitVec 32 := 4#32
  let v146 : Index := Scalar.indexCast c4_i32_90
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v147 : Index := Scalar.indexCast v83
  ![4, v147.toNat]
def k0_off16 (k0_t2 : Fin k0_t2_loop.trips) : Fin 2 → Nat :=
  let c5_i32 : BitVec 32 := 5#32
  let v149 : Index := Scalar.indexCast c5_i32
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v150 : Index := Scalar.indexCast v83
  ![5, v150.toNat]

def k0_chk6 (v151 : IVec S16 32) : Prop :=
  (∀ a x, ((![v151] : Fin 1 → IVec S16 32) a x).toNat < S1024.size a) ∧
  (∀ a x, ((![v151] : Fin 1 → IVec S16 32) a x).toNat < S1024.size a)
theorem k0_idx11_inb : ∀ (v151 : IVec S16 32) (k0_hw6 : k0_chk6 v151), ∀ a x, ((![v151] : Fin 1 → IVec S16 32) a x).toNat < S1024.size a := fun v151 k0_hw6 => k0_hw6.1
theorem k0_idx12_inb : ∀ (v151 : IVec S16 32) (k0_hw6 : k0_chk6 v151), ∀ a x, ((![v151] : Fin 1 → IVec S16 32) a x).toNat < S1024.size a := fun v151 k0_hw6 => k0_hw6.2
def k0_off17 (k0_t2 : Fin k0_t2_loop.trips) : Fin 2 → Nat :=
  let c5_i32_92 : BitVec 32 := 5#32
  let v159 : Index := Scalar.indexCast c5_i32_92
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v160 : Index := Scalar.indexCast v83
  ![5, v160.toNat]
def k0_off18 (k0_t2 : Fin k0_t2_loop.trips) : Fin 2 → Nat :=
  let c6_i32 : BitVec 32 := 6#32
  let v162 : Index := Scalar.indexCast c6_i32
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v163 : Index := Scalar.indexCast v83
  ![6, v163.toNat]

def k0_chk7 (v164 : IVec S16 32) : Prop :=
  (∀ a x, ((![v164] : Fin 1 → IVec S16 32) a x).toNat < S1024.size a) ∧
  (∀ a x, ((![v164] : Fin 1 → IVec S16 32) a x).toNat < S1024.size a)
theorem k0_idx13_inb : ∀ (v164 : IVec S16 32) (k0_hw7 : k0_chk7 v164), ∀ a x, ((![v164] : Fin 1 → IVec S16 32) a x).toNat < S1024.size a := fun v164 k0_hw7 => k0_hw7.1
theorem k0_idx14_inb : ∀ (v164 : IVec S16 32) (k0_hw7 : k0_chk7 v164), ∀ a x, ((![v164] : Fin 1 → IVec S16 32) a x).toNat < S1024.size a := fun v164 k0_hw7 => k0_hw7.2
def k0_off19 (k0_t2 : Fin k0_t2_loop.trips) : Fin 2 → Nat :=
  let c6_i32_94 : BitVec 32 := 6#32
  let v172 : Index := Scalar.indexCast c6_i32_94
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v173 : Index := Scalar.indexCast v83
  ![6, v173.toNat]
def k0_off20 (k0_t2 : Fin k0_t2_loop.trips) : Fin 2 → Nat :=
  let c7_i32 : BitVec 32 := 7#32
  let v175 : Index := Scalar.indexCast c7_i32
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v176 : Index := Scalar.indexCast v83
  ![7, v176.toNat]

def k0_chk8 (v177 : IVec S16 32) : Prop :=
  (∀ a x, ((![v177] : Fin 1 → IVec S16 32) a x).toNat < S1024.size a) ∧
  (∀ a x, ((![v177] : Fin 1 → IVec S16 32) a x).toNat < S1024.size a)
theorem k0_idx15_inb : ∀ (v177 : IVec S16 32) (k0_hw8 : k0_chk8 v177), ∀ a x, ((![v177] : Fin 1 → IVec S16 32) a x).toNat < S1024.size a := fun v177 k0_hw8 => k0_hw8.1
theorem k0_idx16_inb : ∀ (v177 : IVec S16 32) (k0_hw8 : k0_chk8 v177), ∀ a x, ((![v177] : Fin 1 → IVec S16 32) a x).toNat < S1024.size a := fun v177 k0_hw8 => k0_hw8.2
def k0_off21 (k0_t2 : Fin k0_t2_loop.trips) : Fin 2 → Nat :=
  let c7_i32_96 : BitVec 32 := 7#32
  let v185 : Index := Scalar.indexCast c7_i32_96
  let c0_i32_75 : BitVec 32 := 0#32
  let c0_i32_36 : BitVec 32 := 0#32
  let c1_i32_38 : BitVec 32 := 1#32
  let arg31 : BitVec 32 := Scf.iv c0_i32_36 c1_i32_38 k0_t2
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v186 : Index := Scalar.indexCast v83
  ![7, v186.toNat]
def k0_off22 (i : grid0.Coords) (k0_t1 : Fin k0_t1_loop.trips) (c0_i32_29 : BitVec 32) : Fin 2 → Nat :=
  let c0_i32_10 : BitVec 32 := 0#32
  let c1_i32 : BitVec 32 := 1#32
  let arg29 : BitVec 32 := Scf.iv c0_i32_10 c1_i32 k0_t1
  let c3_i32 : BitVec 32 := 3#32
  let v32 : BitVec 32 := Scalar.muli arg29 c3_i32
  let v33 : BitVec 32 := Scalar.addi v32 c0_i32_29
  let c8_i32_40 : BitVec 32 := 8#32
  let v42 : BitVec 32 := Scalar.muli v33 c8_i32_40
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v42.toNat, v2.toNat]
def k0_cond2 (k0_t1 : Fin k0_t1_loop.trips) : BitVec 1 :=
  let c0_i32_10 : BitVec 32 := 0#32
  let c1_i32 : BitVec 32 := 1#32
  let arg29 : BitVec 32 := Scf.iv c0_i32_10 c1_i32 k0_t1
  let c3_i32 : BitVec 32 := 3#32
  let v32 : BitVec 32 := Scalar.muli arg29 c3_i32
  let c0_i32_29 : BitVec 32 := 0#32
  let v33 : BitVec 32 := Scalar.addi v32 c0_i32_29
  let c3_i32_41 : BitVec 32 := 3#32
  let v45 : BitVec 32 := Scalar.addi v33 c3_i32_41
  let c25_i32 : BitVec 32 := 25#32
  let v46 : BitVec 1 := Scalar.cmpi .slt v45 c25_i32
  let v47 : BitVec 32 := Scalar.extui v46
  let c0_i32_42 : BitVec 32 := 0#32
  let v48 : BitVec 1 := Scalar.cmpi .ne v47 c0_i32_42
  v48

def k0_off23 (i : grid0.Coords) (k0_t1 : Fin k0_t1_loop.trips) : Fin 2 → Nat :=
  let c0_i32_10 : BitVec 32 := 0#32
  let c1_i32 : BitVec 32 := 1#32
  let arg29 : BitVec 32 := Scf.iv c0_i32_10 c1_i32 k0_t1
  let c3_i32 : BitVec 32 := 3#32
  let v32 : BitVec 32 := Scalar.muli arg29 c3_i32
  let c0_i32_29 : BitVec 32 := 0#32
  let v33 : BitVec 32 := Scalar.addi v32 c0_i32_29
  let c3_i32_74 : BitVec 32 := 3#32
  let v81 : BitVec 32 := Scalar.addi v33 c3_i32_74
  let c8_i32_75 : BitVec 32 := 8#32
  let v82 : BitVec 32 := Scalar.muli v81 c8_i32_75
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v82.toNat, v2.toNat]
def k0_cond3 (k0_t1 : Fin k0_t1_loop.trips) : BitVec 1 :=
  let c0_i32_10 : BitVec 32 := 0#32
  let c1_i32 : BitVec 32 := 1#32
  let arg29 : BitVec 32 := Scf.iv c0_i32_10 c1_i32 k0_t1
  let c0_i32_48 : BitVec 32 := 0#32
  let v54 : BitVec 1 := Scalar.cmpi .sgt arg29 c0_i32_48
  let v55 : BitVec 32 := Scalar.extui v54
  let c0_i32_49 : BitVec 32 := 0#32
  let v56 : BitVec 1 := Scalar.cmpi .ne v55 c0_i32_49
  v56

def k0_off24 (i : grid0.Coords) : Fin 2 → Nat :=
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k0_t3_loop : Scf.Loop 32 :=
  let c0_i32_50 : BitVec 32 := 0#32
  let c32_i32_51 : BitVec 32 := 32#32
  let v57 : BitVec 32 := Scalar.addi c0_i32_50 c32_i32_51
  let c1_i32_52 : BitVec 32 := 1#32
  ⟨c0_i32_50, v57, c1_i32_52⟩
def k0_off25 (k0_t3 : Fin k0_t3_loop.trips) : Fin 2 → Nat :=
  let c0_i32_77 : BitVec 32 := 0#32
  let v84 : Index := Scalar.indexCast c0_i32_77
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v85 : Index := Scalar.indexCast v83
  ![0, v85.toNat]

def k0_chk9 (v86 : IVec S16 32) : Prop :=
  (∀ a x, ((![v86] : Fin 1 → IVec S16 32) a x).toNat < S1024.size a) ∧
  (∀ a x, ((![v86] : Fin 1 → IVec S16 32) a x).toNat < S1024.size a)
theorem k0_idx17_inb : ∀ (v86 : IVec S16 32) (k0_hw9 : k0_chk9 v86), ∀ a x, ((![v86] : Fin 1 → IVec S16 32) a x).toNat < S1024.size a := fun v86 k0_hw9 => k0_hw9.1
theorem k0_idx18_inb : ∀ (v86 : IVec S16 32) (k0_hw9 : k0_chk9 v86), ∀ a x, ((![v86] : Fin 1 → IVec S16 32) a x).toNat < S1024.size a := fun v86 k0_hw9 => k0_hw9.2
def k0_off26 (k0_t3 : Fin k0_t3_loop.trips) : Fin 2 → Nat :=
  let c0_i32_79 : BitVec 32 := 0#32
  let v94 : Index := Scalar.indexCast c0_i32_79
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v95 : Index := Scalar.indexCast v83
  ![0, v95.toNat]
def k0_off27 (k0_t3 : Fin k0_t3_loop.trips) : Fin 2 → Nat :=
  let c1_i32_80 : BitVec 32 := 1#32
  let v97 : Index := Scalar.indexCast c1_i32_80
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v98 : Index := Scalar.indexCast v83
  ![1, v98.toNat]

def k0_chk10 (v99 : IVec S16 32) : Prop :=
  (∀ a x, ((![v99] : Fin 1 → IVec S16 32) a x).toNat < S1024.size a) ∧
  (∀ a x, ((![v99] : Fin 1 → IVec S16 32) a x).toNat < S1024.size a)
theorem k0_idx19_inb : ∀ (v99 : IVec S16 32) (k0_hw10 : k0_chk10 v99), ∀ a x, ((![v99] : Fin 1 → IVec S16 32) a x).toNat < S1024.size a := fun v99 k0_hw10 => k0_hw10.1
theorem k0_idx20_inb : ∀ (v99 : IVec S16 32) (k0_hw10 : k0_chk10 v99), ∀ a x, ((![v99] : Fin 1 → IVec S16 32) a x).toNat < S1024.size a := fun v99 k0_hw10 => k0_hw10.2
def k0_off28 (k0_t3 : Fin k0_t3_loop.trips) : Fin 2 → Nat :=
  let c1_i32_82 : BitVec 32 := 1#32
  let v107 : Index := Scalar.indexCast c1_i32_82
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v108 : Index := Scalar.indexCast v83
  ![1, v108.toNat]
def k0_off29 (k0_t3 : Fin k0_t3_loop.trips) : Fin 2 → Nat :=
  let c2_i32_83 : BitVec 32 := 2#32
  let v110 : Index := Scalar.indexCast c2_i32_83
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v111 : Index := Scalar.indexCast v83
  ![2, v111.toNat]

def k0_chk11 (v112 : IVec S16 32) : Prop :=
  (∀ a x, ((![v112] : Fin 1 → IVec S16 32) a x).toNat < S1024.size a) ∧
  (∀ a x, ((![v112] : Fin 1 → IVec S16 32) a x).toNat < S1024.size a)
theorem k0_idx21_inb : ∀ (v112 : IVec S16 32) (k0_hw11 : k0_chk11 v112), ∀ a x, ((![v112] : Fin 1 → IVec S16 32) a x).toNat < S1024.size a := fun v112 k0_hw11 => k0_hw11.1
theorem k0_idx22_inb : ∀ (v112 : IVec S16 32) (k0_hw11 : k0_chk11 v112), ∀ a x, ((![v112] : Fin 1 → IVec S16 32) a x).toNat < S1024.size a := fun v112 k0_hw11 => k0_hw11.2
def k0_off30 (k0_t3 : Fin k0_t3_loop.trips) : Fin 2 → Nat :=
  let c2_i32_85 : BitVec 32 := 2#32
  let v120 : Index := Scalar.indexCast c2_i32_85
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v121 : Index := Scalar.indexCast v83
  ![2, v121.toNat]
def k0_off31 (k0_t3 : Fin k0_t3_loop.trips) : Fin 2 → Nat :=
  let c3_i32_86 : BitVec 32 := 3#32
  let v123 : Index := Scalar.indexCast c3_i32_86
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v124 : Index := Scalar.indexCast v83
  ![3, v124.toNat]

def k0_chk12 (v125 : IVec S16 32) : Prop :=
  (∀ a x, ((![v125] : Fin 1 → IVec S16 32) a x).toNat < S1024.size a) ∧
  (∀ a x, ((![v125] : Fin 1 → IVec S16 32) a x).toNat < S1024.size a)
theorem k0_idx23_inb : ∀ (v125 : IVec S16 32) (k0_hw12 : k0_chk12 v125), ∀ a x, ((![v125] : Fin 1 → IVec S16 32) a x).toNat < S1024.size a := fun v125 k0_hw12 => k0_hw12.1
theorem k0_idx24_inb : ∀ (v125 : IVec S16 32) (k0_hw12 : k0_chk12 v125), ∀ a x, ((![v125] : Fin 1 → IVec S16 32) a x).toNat < S1024.size a := fun v125 k0_hw12 => k0_hw12.2
def k0_off32 (k0_t3 : Fin k0_t3_loop.trips) : Fin 2 → Nat :=
  let c3_i32_88 : BitVec 32 := 3#32
  let v133 : Index := Scalar.indexCast c3_i32_88
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v134 : Index := Scalar.indexCast v83
  ![3, v134.toNat]
def k0_off33 (k0_t3 : Fin k0_t3_loop.trips) : Fin 2 → Nat :=
  let c4_i32 : BitVec 32 := 4#32
  let v136 : Index := Scalar.indexCast c4_i32
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v137 : Index := Scalar.indexCast v83
  ![4, v137.toNat]

def k0_chk13 (v138 : IVec S16 32) : Prop :=
  (∀ a x, ((![v138] : Fin 1 → IVec S16 32) a x).toNat < S1024.size a) ∧
  (∀ a x, ((![v138] : Fin 1 → IVec S16 32) a x).toNat < S1024.size a)
theorem k0_idx25_inb : ∀ (v138 : IVec S16 32) (k0_hw13 : k0_chk13 v138), ∀ a x, ((![v138] : Fin 1 → IVec S16 32) a x).toNat < S1024.size a := fun v138 k0_hw13 => k0_hw13.1
theorem k0_idx26_inb : ∀ (v138 : IVec S16 32) (k0_hw13 : k0_chk13 v138), ∀ a x, ((![v138] : Fin 1 → IVec S16 32) a x).toNat < S1024.size a := fun v138 k0_hw13 => k0_hw13.2
def k0_off34 (k0_t3 : Fin k0_t3_loop.trips) : Fin 2 → Nat :=
  let c4_i32_90 : BitVec 32 := 4#32
  let v146 : Index := Scalar.indexCast c4_i32_90
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v147 : Index := Scalar.indexCast v83
  ![4, v147.toNat]
def k0_off35 (k0_t3 : Fin k0_t3_loop.trips) : Fin 2 → Nat :=
  let c5_i32 : BitVec 32 := 5#32
  let v149 : Index := Scalar.indexCast c5_i32
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v150 : Index := Scalar.indexCast v83
  ![5, v150.toNat]

def k0_chk14 (v151 : IVec S16 32) : Prop :=
  (∀ a x, ((![v151] : Fin 1 → IVec S16 32) a x).toNat < S1024.size a) ∧
  (∀ a x, ((![v151] : Fin 1 → IVec S16 32) a x).toNat < S1024.size a)
theorem k0_idx27_inb : ∀ (v151 : IVec S16 32) (k0_hw14 : k0_chk14 v151), ∀ a x, ((![v151] : Fin 1 → IVec S16 32) a x).toNat < S1024.size a := fun v151 k0_hw14 => k0_hw14.1
theorem k0_idx28_inb : ∀ (v151 : IVec S16 32) (k0_hw14 : k0_chk14 v151), ∀ a x, ((![v151] : Fin 1 → IVec S16 32) a x).toNat < S1024.size a := fun v151 k0_hw14 => k0_hw14.2
def k0_off36 (k0_t3 : Fin k0_t3_loop.trips) : Fin 2 → Nat :=
  let c5_i32_92 : BitVec 32 := 5#32
  let v159 : Index := Scalar.indexCast c5_i32_92
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v160 : Index := Scalar.indexCast v83
  ![5, v160.toNat]
def k0_off37 (k0_t3 : Fin k0_t3_loop.trips) : Fin 2 → Nat :=
  let c6_i32 : BitVec 32 := 6#32
  let v162 : Index := Scalar.indexCast c6_i32
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v163 : Index := Scalar.indexCast v83
  ![6, v163.toNat]

def k0_chk15 (v164 : IVec S16 32) : Prop :=
  (∀ a x, ((![v164] : Fin 1 → IVec S16 32) a x).toNat < S1024.size a) ∧
  (∀ a x, ((![v164] : Fin 1 → IVec S16 32) a x).toNat < S1024.size a)
theorem k0_idx29_inb : ∀ (v164 : IVec S16 32) (k0_hw15 : k0_chk15 v164), ∀ a x, ((![v164] : Fin 1 → IVec S16 32) a x).toNat < S1024.size a := fun v164 k0_hw15 => k0_hw15.1
theorem k0_idx30_inb : ∀ (v164 : IVec S16 32) (k0_hw15 : k0_chk15 v164), ∀ a x, ((![v164] : Fin 1 → IVec S16 32) a x).toNat < S1024.size a := fun v164 k0_hw15 => k0_hw15.2
def k0_off38 (k0_t3 : Fin k0_t3_loop.trips) : Fin 2 → Nat :=
  let c6_i32_94 : BitVec 32 := 6#32
  let v172 : Index := Scalar.indexCast c6_i32_94
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v173 : Index := Scalar.indexCast v83
  ![6, v173.toNat]
def k0_off39 (k0_t3 : Fin k0_t3_loop.trips) : Fin 2 → Nat :=
  let c7_i32 : BitVec 32 := 7#32
  let v175 : Index := Scalar.indexCast c7_i32
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v176 : Index := Scalar.indexCast v83
  ![7, v176.toNat]

def k0_chk16 (v177 : IVec S16 32) : Prop :=
  (∀ a x, ((![v177] : Fin 1 → IVec S16 32) a x).toNat < S1024.size a) ∧
  (∀ a x, ((![v177] : Fin 1 → IVec S16 32) a x).toNat < S1024.size a)
theorem k0_idx31_inb : ∀ (v177 : IVec S16 32) (k0_hw16 : k0_chk16 v177), ∀ a x, ((![v177] : Fin 1 → IVec S16 32) a x).toNat < S1024.size a := fun v177 k0_hw16 => k0_hw16.1
theorem k0_idx32_inb : ∀ (v177 : IVec S16 32) (k0_hw16 : k0_chk16 v177), ∀ a x, ((![v177] : Fin 1 → IVec S16 32) a x).toNat < S1024.size a := fun v177 k0_hw16 => k0_hw16.2
def k0_off40 (k0_t3 : Fin k0_t3_loop.trips) : Fin 2 → Nat :=
  let c7_i32_96 : BitVec 32 := 7#32
  let v185 : Index := Scalar.indexCast c7_i32_96
  let c0_i32_75 : BitVec 32 := 0#32
  let c0_i32_50 : BitVec 32 := 0#32
  let c1_i32_52 : BitVec 32 := 1#32
  let arg31 : BitVec 32 := Scf.iv c0_i32_50 c1_i32_52 k0_t3
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v186 : Index := Scalar.indexCast v83
  ![7, v186.toNat]
def k0_cond4 (k0_t1 : Fin k0_t1_loop.trips) : BitVec 1 :=
  let c0_i32_10 : BitVec 32 := 0#32
  let c1_i32 : BitVec 32 := 1#32
  let arg29 : BitVec 32 := Scf.iv c0_i32_10 c1_i32 k0_t1
  let c3_i32 : BitVec 32 := 3#32
  let v32 : BitVec 32 := Scalar.muli arg29 c3_i32
  let c1_i32_43 : BitVec 32 := 1#32
  let v49 : BitVec 32 := Scalar.addi v32 c1_i32_43
  let c3_i32_55 : BitVec 32 := 3#32
  let v61 : BitVec 32 := Scalar.addi v49 c3_i32_55
  let c25_i32_56 : BitVec 32 := 25#32
  let v62 : BitVec 1 := Scalar.cmpi .slt v61 c25_i32_56
  let v63 : BitVec 32 := Scalar.extui v62
  let c0_i32_57 : BitVec 32 := 0#32
  let v64 : BitVec 1 := Scalar.cmpi .ne v63 c0_i32_57
  v64

def k0_off41 (i : grid0.Coords) (k0_t1 : Fin k0_t1_loop.trips) : Fin 2 → Nat :=
  let c0_i32_10 : BitVec 32 := 0#32
  let c1_i32 : BitVec 32 := 1#32
  let arg29 : BitVec 32 := Scf.iv c0_i32_10 c1_i32 k0_t1
  let c3_i32 : BitVec 32 := 3#32
  let v32 : BitVec 32 := Scalar.muli arg29 c3_i32
  let c1_i32_43 : BitVec 32 := 1#32
  let v49 : BitVec 32 := Scalar.addi v32 c1_i32_43
  let c3_i32_74 : BitVec 32 := 3#32
  let v81 : BitVec 32 := Scalar.addi v49 c3_i32_74
  let c8_i32_75 : BitVec 32 := 8#32
  let v82 : BitVec 32 := Scalar.muli v81 c8_i32_75
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v82.toNat, v2.toNat]
def k0_cond5 (k0_t1 : Fin k0_t1_loop.trips) : BitVec 1 :=
  let c0_i32_10 : BitVec 32 := 0#32
  let c1_i32 : BitVec 32 := 1#32
  let arg29 : BitVec 32 := Scf.iv c0_i32_10 c1_i32 k0_t1
  let c0_i32_63 : BitVec 32 := 0#32
  let v70 : BitVec 1 := Scalar.cmpi .sgt arg29 c0_i32_63
  let v71 : BitVec 32 := Scalar.extui v70
  let c0_i32_64 : BitVec 32 := 0#32
  let v72 : BitVec 1 := Scalar.cmpi .ne v71 c0_i32_64
  v72

def k0_off42 (i : grid0.Coords) : Fin 2 → Nat :=
  let c0_i32_74 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
@[reducible] def k0_t4_loop : Scf.Loop 32 :=
  let c0_i32_65 : BitVec 32 := 0#32
  let c32_i32_66 : BitVec 32 := 32#32
  let v73 : BitVec 32 := Scalar.addi c0_i32_65 c32_i32_66
  let c1_i32_67 : BitVec 32 := 1#32
  ⟨c0_i32_65, v73, c1_i32_67⟩
def k0_off43 (k0_t4 : Fin k0_t4_loop.trips) : Fin 2 → Nat :=
  let c0_i32_77 : BitVec 32 := 0#32
  let v84 : Index := Scalar.indexCast c0_i32_77
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v85 : Index := Scalar.indexCast v83
  ![0, v85.toNat]

def k0_chk17 (v86 : IVec S16 32) : Prop :=
  (∀ a x, ((![v86] : Fin 1 → IVec S16 32) a x).toNat < S1024.size a) ∧
  (∀ a x, ((![v86] : Fin 1 → IVec S16 32) a x).toNat < S1024.size a)
theorem k0_idx33_inb : ∀ (v86 : IVec S16 32) (k0_hw17 : k0_chk17 v86), ∀ a x, ((![v86] : Fin 1 → IVec S16 32) a x).toNat < S1024.size a := fun v86 k0_hw17 => k0_hw17.1
theorem k0_idx34_inb : ∀ (v86 : IVec S16 32) (k0_hw17 : k0_chk17 v86), ∀ a x, ((![v86] : Fin 1 → IVec S16 32) a x).toNat < S1024.size a := fun v86 k0_hw17 => k0_hw17.2
def k0_off44 (k0_t4 : Fin k0_t4_loop.trips) : Fin 2 → Nat :=
  let c0_i32_79 : BitVec 32 := 0#32
  let v94 : Index := Scalar.indexCast c0_i32_79
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v95 : Index := Scalar.indexCast v83
  ![0, v95.toNat]
def k0_off45 (k0_t4 : Fin k0_t4_loop.trips) : Fin 2 → Nat :=
  let c1_i32_80 : BitVec 32 := 1#32
  let v97 : Index := Scalar.indexCast c1_i32_80
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v98 : Index := Scalar.indexCast v83
  ![1, v98.toNat]

def k0_chk18 (v99 : IVec S16 32) : Prop :=
  (∀ a x, ((![v99] : Fin 1 → IVec S16 32) a x).toNat < S1024.size a) ∧
  (∀ a x, ((![v99] : Fin 1 → IVec S16 32) a x).toNat < S1024.size a)
theorem k0_idx35_inb : ∀ (v99 : IVec S16 32) (k0_hw18 : k0_chk18 v99), ∀ a x, ((![v99] : Fin 1 → IVec S16 32) a x).toNat < S1024.size a := fun v99 k0_hw18 => k0_hw18.1
theorem k0_idx36_inb : ∀ (v99 : IVec S16 32) (k0_hw18 : k0_chk18 v99), ∀ a x, ((![v99] : Fin 1 → IVec S16 32) a x).toNat < S1024.size a := fun v99 k0_hw18 => k0_hw18.2
def k0_off46 (k0_t4 : Fin k0_t4_loop.trips) : Fin 2 → Nat :=
  let c1_i32_82 : BitVec 32 := 1#32
  let v107 : Index := Scalar.indexCast c1_i32_82
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v108 : Index := Scalar.indexCast v83
  ![1, v108.toNat]
def k0_off47 (k0_t4 : Fin k0_t4_loop.trips) : Fin 2 → Nat :=
  let c2_i32_83 : BitVec 32 := 2#32
  let v110 : Index := Scalar.indexCast c2_i32_83
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v111 : Index := Scalar.indexCast v83
  ![2, v111.toNat]

def k0_chk19 (v112 : IVec S16 32) : Prop :=
  (∀ a x, ((![v112] : Fin 1 → IVec S16 32) a x).toNat < S1024.size a) ∧
  (∀ a x, ((![v112] : Fin 1 → IVec S16 32) a x).toNat < S1024.size a)
theorem k0_idx37_inb : ∀ (v112 : IVec S16 32) (k0_hw19 : k0_chk19 v112), ∀ a x, ((![v112] : Fin 1 → IVec S16 32) a x).toNat < S1024.size a := fun v112 k0_hw19 => k0_hw19.1
theorem k0_idx38_inb : ∀ (v112 : IVec S16 32) (k0_hw19 : k0_chk19 v112), ∀ a x, ((![v112] : Fin 1 → IVec S16 32) a x).toNat < S1024.size a := fun v112 k0_hw19 => k0_hw19.2
def k0_off48 (k0_t4 : Fin k0_t4_loop.trips) : Fin 2 → Nat :=
  let c2_i32_85 : BitVec 32 := 2#32
  let v120 : Index := Scalar.indexCast c2_i32_85
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v121 : Index := Scalar.indexCast v83
  ![2, v121.toNat]
def k0_off49 (k0_t4 : Fin k0_t4_loop.trips) : Fin 2 → Nat :=
  let c3_i32_86 : BitVec 32 := 3#32
  let v123 : Index := Scalar.indexCast c3_i32_86
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v124 : Index := Scalar.indexCast v83
  ![3, v124.toNat]

def k0_chk20 (v125 : IVec S16 32) : Prop :=
  (∀ a x, ((![v125] : Fin 1 → IVec S16 32) a x).toNat < S1024.size a) ∧
  (∀ a x, ((![v125] : Fin 1 → IVec S16 32) a x).toNat < S1024.size a)
theorem k0_idx39_inb : ∀ (v125 : IVec S16 32) (k0_hw20 : k0_chk20 v125), ∀ a x, ((![v125] : Fin 1 → IVec S16 32) a x).toNat < S1024.size a := fun v125 k0_hw20 => k0_hw20.1
theorem k0_idx40_inb : ∀ (v125 : IVec S16 32) (k0_hw20 : k0_chk20 v125), ∀ a x, ((![v125] : Fin 1 → IVec S16 32) a x).toNat < S1024.size a := fun v125 k0_hw20 => k0_hw20.2
def k0_off50 (k0_t4 : Fin k0_t4_loop.trips) : Fin 2 → Nat :=
  let c3_i32_88 : BitVec 32 := 3#32
  let v133 : Index := Scalar.indexCast c3_i32_88
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v134 : Index := Scalar.indexCast v83
  ![3, v134.toNat]
def k0_off51 (k0_t4 : Fin k0_t4_loop.trips) : Fin 2 → Nat :=
  let c4_i32 : BitVec 32 := 4#32
  let v136 : Index := Scalar.indexCast c4_i32
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v137 : Index := Scalar.indexCast v83
  ![4, v137.toNat]

def k0_chk21 (v138 : IVec S16 32) : Prop :=
  (∀ a x, ((![v138] : Fin 1 → IVec S16 32) a x).toNat < S1024.size a) ∧
  (∀ a x, ((![v138] : Fin 1 → IVec S16 32) a x).toNat < S1024.size a)
theorem k0_idx41_inb : ∀ (v138 : IVec S16 32) (k0_hw21 : k0_chk21 v138), ∀ a x, ((![v138] : Fin 1 → IVec S16 32) a x).toNat < S1024.size a := fun v138 k0_hw21 => k0_hw21.1
theorem k0_idx42_inb : ∀ (v138 : IVec S16 32) (k0_hw21 : k0_chk21 v138), ∀ a x, ((![v138] : Fin 1 → IVec S16 32) a x).toNat < S1024.size a := fun v138 k0_hw21 => k0_hw21.2
def k0_off52 (k0_t4 : Fin k0_t4_loop.trips) : Fin 2 → Nat :=
  let c4_i32_90 : BitVec 32 := 4#32
  let v146 : Index := Scalar.indexCast c4_i32_90
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v147 : Index := Scalar.indexCast v83
  ![4, v147.toNat]
def k0_off53 (k0_t4 : Fin k0_t4_loop.trips) : Fin 2 → Nat :=
  let c5_i32 : BitVec 32 := 5#32
  let v149 : Index := Scalar.indexCast c5_i32
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v150 : Index := Scalar.indexCast v83
  ![5, v150.toNat]

def k0_chk22 (v151 : IVec S16 32) : Prop :=
  (∀ a x, ((![v151] : Fin 1 → IVec S16 32) a x).toNat < S1024.size a) ∧
  (∀ a x, ((![v151] : Fin 1 → IVec S16 32) a x).toNat < S1024.size a)
theorem k0_idx43_inb : ∀ (v151 : IVec S16 32) (k0_hw22 : k0_chk22 v151), ∀ a x, ((![v151] : Fin 1 → IVec S16 32) a x).toNat < S1024.size a := fun v151 k0_hw22 => k0_hw22.1
theorem k0_idx44_inb : ∀ (v151 : IVec S16 32) (k0_hw22 : k0_chk22 v151), ∀ a x, ((![v151] : Fin 1 → IVec S16 32) a x).toNat < S1024.size a := fun v151 k0_hw22 => k0_hw22.2
def k0_off54 (k0_t4 : Fin k0_t4_loop.trips) : Fin 2 → Nat :=
  let c5_i32_92 : BitVec 32 := 5#32
  let v159 : Index := Scalar.indexCast c5_i32_92
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v160 : Index := Scalar.indexCast v83
  ![5, v160.toNat]
def k0_off55 (k0_t4 : Fin k0_t4_loop.trips) : Fin 2 → Nat :=
  let c6_i32 : BitVec 32 := 6#32
  let v162 : Index := Scalar.indexCast c6_i32
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v163 : Index := Scalar.indexCast v83
  ![6, v163.toNat]

def k0_chk23 (v164 : IVec S16 32) : Prop :=
  (∀ a x, ((![v164] : Fin 1 → IVec S16 32) a x).toNat < S1024.size a) ∧
  (∀ a x, ((![v164] : Fin 1 → IVec S16 32) a x).toNat < S1024.size a)
theorem k0_idx45_inb : ∀ (v164 : IVec S16 32) (k0_hw23 : k0_chk23 v164), ∀ a x, ((![v164] : Fin 1 → IVec S16 32) a x).toNat < S1024.size a := fun v164 k0_hw23 => k0_hw23.1
theorem k0_idx46_inb : ∀ (v164 : IVec S16 32) (k0_hw23 : k0_chk23 v164), ∀ a x, ((![v164] : Fin 1 → IVec S16 32) a x).toNat < S1024.size a := fun v164 k0_hw23 => k0_hw23.2
def k0_off56 (k0_t4 : Fin k0_t4_loop.trips) : Fin 2 → Nat :=
  let c6_i32_94 : BitVec 32 := 6#32
  let v172 : Index := Scalar.indexCast c6_i32_94
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v173 : Index := Scalar.indexCast v83
  ![6, v173.toNat]
def k0_off57 (k0_t4 : Fin k0_t4_loop.trips) : Fin 2 → Nat :=
  let c7_i32 : BitVec 32 := 7#32
  let v175 : Index := Scalar.indexCast c7_i32
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v176 : Index := Scalar.indexCast v83
  ![7, v176.toNat]

def k0_chk24 (v177 : IVec S16 32) : Prop :=
  (∀ a x, ((![v177] : Fin 1 → IVec S16 32) a x).toNat < S1024.size a) ∧
  (∀ a x, ((![v177] : Fin 1 → IVec S16 32) a x).toNat < S1024.size a)
theorem k0_idx47_inb : ∀ (v177 : IVec S16 32) (k0_hw24 : k0_chk24 v177), ∀ a x, ((![v177] : Fin 1 → IVec S16 32) a x).toNat < S1024.size a := fun v177 k0_hw24 => k0_hw24.1
theorem k0_idx48_inb : ∀ (v177 : IVec S16 32) (k0_hw24 : k0_chk24 v177), ∀ a x, ((![v177] : Fin 1 → IVec S16 32) a x).toNat < S1024.size a := fun v177 k0_hw24 => k0_hw24.2
def k0_off58 (k0_t4 : Fin k0_t4_loop.trips) : Fin 2 → Nat :=
  let c7_i32_96 : BitVec 32 := 7#32
  let v185 : Index := Scalar.indexCast c7_i32_96
  let c0_i32_75 : BitVec 32 := 0#32
  let c0_i32_65 : BitVec 32 := 0#32
  let c1_i32_67 : BitVec 32 := 1#32
  let arg31 : BitVec 32 := Scf.iv c0_i32_65 c1_i32_67 k0_t4
  let c1_i32_74 : BitVec 32 := 1#32
  let v81 : BitVec 32 := Scalar.muli arg31 c1_i32_74
  let v82 : BitVec 32 := Scalar.addi c0_i32_75 v81
  let c16_i32_76 : BitVec 32 := 16#32
  let v83 : BitVec 32 := Scalar.muli v82 c16_i32_76
  let v186 : Index := Scalar.indexCast v83
  ![7, v186.toNat]
def k0_cond6 (k0_t1 : Fin k0_t1_loop.trips) : BitVec 1 :=
  let c0_i32_10 : BitVec 32 := 0#32
  let c1_i32 : BitVec 32 := 1#32
  let arg29 : BitVec 32 := Scf.iv c0_i32_10 c1_i32 k0_t1
  let c3_i32 : BitVec 32 := 3#32
  let v32 : BitVec 32 := Scalar.muli arg29 c3_i32
  let c2_i32_58 : BitVec 32 := 2#32
  let v65 : BitVec 32 := Scalar.addi v32 c2_i32_58
  let c3_i32_70 : BitVec 32 := 3#32
  let v77 : BitVec 32 := Scalar.addi v65 c3_i32_70
  let c25_i32_71 : BitVec 32 := 25#32
  let v78 : BitVec 1 := Scalar.cmpi .slt v77 c25_i32_71
  let v79 : BitVec 32 := Scalar.extui v78
  let c0_i32_72 : BitVec 32 := 0#32
  let v80 : BitVec 1 := Scalar.cmpi .ne v79 c0_i32_72
  v80

def k0_off59 (i : grid0.Coords) (k0_t1 : Fin k0_t1_loop.trips) : Fin 2 → Nat :=
  let c0_i32_10 : BitVec 32 := 0#32
  let c1_i32 : BitVec 32 := 1#32
  let arg29 : BitVec 32 := Scf.iv c0_i32_10 c1_i32 k0_t1
  let c3_i32 : BitVec 32 := 3#32
  let v32 : BitVec 32 := Scalar.muli arg29 c3_i32
  let c2_i32_58 : BitVec 32 := 2#32
  let v65 : BitVec 32 := Scalar.addi v32 c2_i32_58
  let c3_i32_74 : BitVec 32 := 3#32
  let v81 : BitVec 32 := Scalar.addi v65 c3_i32_74
  let c8_i32_75 : BitVec 32 := 8#32
  let v82 : BitVec 32 := Scalar.muli v81 c8_i32_75
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v82.toNat, v2.toNat]
@[reducible] def k0_t5_loop : Scf.Loop 32 :=
  let c0_i32_19 : BitVec 32 := 0#32
  let c32_i32 : BitVec 32 := 32#32
  let v23 : BitVec 32 := Scalar.addi c0_i32_19 c32_i32
  let c1_i32_20 : BitVec 32 := 1#32
  ⟨c0_i32_19, v23, c1_i32_20⟩
def k0_off60 (k0_t5 : Fin k0_t5_loop.trips) : Fin 2 → Nat :=
  let c0_i32_32 : BitVec 32 := 0#32
  let v35 : Index := Scalar.indexCast c0_i32_32
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v36 : Index := Scalar.indexCast v34
  ![0, v36.toNat]

def k0_chk25 (v37 : IVec S16 32) : Prop :=
  (∀ a x, ((![v37] : Fin 1 → IVec S16 32) a x).toNat < S1024.size a) ∧
  (∀ a x, ((![v37] : Fin 1 → IVec S16 32) a x).toNat < S1024.size a)
theorem k0_idx49_inb : ∀ (v37 : IVec S16 32) (k0_hw25 : k0_chk25 v37), ∀ a x, ((![v37] : Fin 1 → IVec S16 32) a x).toNat < S1024.size a := fun v37 k0_hw25 => k0_hw25.1
theorem k0_idx50_inb : ∀ (v37 : IVec S16 32) (k0_hw25 : k0_chk25 v37), ∀ a x, ((![v37] : Fin 1 → IVec S16 32) a x).toNat < S1024.size a := fun v37 k0_hw25 => k0_hw25.2
def k0_off61 (k0_t5 : Fin k0_t5_loop.trips) : Fin 2 → Nat :=
  let c0_i32_34 : BitVec 32 := 0#32
  let v45 : Index := Scalar.indexCast c0_i32_34
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v46 : Index := Scalar.indexCast v34
  ![0, v46.toNat]
def k0_off62 (k0_t5 : Fin k0_t5_loop.trips) : Fin 2 → Nat :=
  let c1_i32_35 : BitVec 32 := 1#32
  let v48 : Index := Scalar.indexCast c1_i32_35
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v49 : Index := Scalar.indexCast v34
  ![1, v49.toNat]

def k0_chk26 (v50 : IVec S16 32) : Prop :=
  (∀ a x, ((![v50] : Fin 1 → IVec S16 32) a x).toNat < S1024.size a) ∧
  (∀ a x, ((![v50] : Fin 1 → IVec S16 32) a x).toNat < S1024.size a)
theorem k0_idx51_inb : ∀ (v50 : IVec S16 32) (k0_hw26 : k0_chk26 v50), ∀ a x, ((![v50] : Fin 1 → IVec S16 32) a x).toNat < S1024.size a := fun v50 k0_hw26 => k0_hw26.1
theorem k0_idx52_inb : ∀ (v50 : IVec S16 32) (k0_hw26 : k0_chk26 v50), ∀ a x, ((![v50] : Fin 1 → IVec S16 32) a x).toNat < S1024.size a := fun v50 k0_hw26 => k0_hw26.2
def k0_off63 (k0_t5 : Fin k0_t5_loop.trips) : Fin 2 → Nat :=
  let c1_i32_37 : BitVec 32 := 1#32
  let v58 : Index := Scalar.indexCast c1_i32_37
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v59 : Index := Scalar.indexCast v34
  ![1, v59.toNat]
def k0_off64 (k0_t5 : Fin k0_t5_loop.trips) : Fin 2 → Nat :=
  let c2_i32_38 : BitVec 32 := 2#32
  let v61 : Index := Scalar.indexCast c2_i32_38
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v62 : Index := Scalar.indexCast v34
  ![2, v62.toNat]

def k0_chk27 (v63 : IVec S16 32) : Prop :=
  (∀ a x, ((![v63] : Fin 1 → IVec S16 32) a x).toNat < S1024.size a) ∧
  (∀ a x, ((![v63] : Fin 1 → IVec S16 32) a x).toNat < S1024.size a)
theorem k0_idx53_inb : ∀ (v63 : IVec S16 32) (k0_hw27 : k0_chk27 v63), ∀ a x, ((![v63] : Fin 1 → IVec S16 32) a x).toNat < S1024.size a := fun v63 k0_hw27 => k0_hw27.1
theorem k0_idx54_inb : ∀ (v63 : IVec S16 32) (k0_hw27 : k0_chk27 v63), ∀ a x, ((![v63] : Fin 1 → IVec S16 32) a x).toNat < S1024.size a := fun v63 k0_hw27 => k0_hw27.2
def k0_off65 (k0_t5 : Fin k0_t5_loop.trips) : Fin 2 → Nat :=
  let c2_i32_40 : BitVec 32 := 2#32
  let v71 : Index := Scalar.indexCast c2_i32_40
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v72 : Index := Scalar.indexCast v34
  ![2, v72.toNat]
def k0_off66 (k0_t5 : Fin k0_t5_loop.trips) : Fin 2 → Nat :=
  let c3_i32 : BitVec 32 := 3#32
  let v74 : Index := Scalar.indexCast c3_i32
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v75 : Index := Scalar.indexCast v34
  ![3, v75.toNat]

def k0_chk28 (v76 : IVec S16 32) : Prop :=
  (∀ a x, ((![v76] : Fin 1 → IVec S16 32) a x).toNat < S1024.size a) ∧
  (∀ a x, ((![v76] : Fin 1 → IVec S16 32) a x).toNat < S1024.size a)
theorem k0_idx55_inb : ∀ (v76 : IVec S16 32) (k0_hw28 : k0_chk28 v76), ∀ a x, ((![v76] : Fin 1 → IVec S16 32) a x).toNat < S1024.size a := fun v76 k0_hw28 => k0_hw28.1
theorem k0_idx56_inb : ∀ (v76 : IVec S16 32) (k0_hw28 : k0_chk28 v76), ∀ a x, ((![v76] : Fin 1 → IVec S16 32) a x).toNat < S1024.size a := fun v76 k0_hw28 => k0_hw28.2
def k0_off67 (k0_t5 : Fin k0_t5_loop.trips) : Fin 2 → Nat :=
  let c3_i32_42 : BitVec 32 := 3#32
  let v84 : Index := Scalar.indexCast c3_i32_42
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v85 : Index := Scalar.indexCast v34
  ![3, v85.toNat]
def k0_off68 (k0_t5 : Fin k0_t5_loop.trips) : Fin 2 → Nat :=
  let c4_i32 : BitVec 32 := 4#32
  let v87 : Index := Scalar.indexCast c4_i32
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v88 : Index := Scalar.indexCast v34
  ![4, v88.toNat]

def k0_chk29 (v89 : IVec S16 32) : Prop :=
  (∀ a x, ((![v89] : Fin 1 → IVec S16 32) a x).toNat < S1024.size a) ∧
  (∀ a x, ((![v89] : Fin 1 → IVec S16 32) a x).toNat < S1024.size a)
theorem k0_idx57_inb : ∀ (v89 : IVec S16 32) (k0_hw29 : k0_chk29 v89), ∀ a x, ((![v89] : Fin 1 → IVec S16 32) a x).toNat < S1024.size a := fun v89 k0_hw29 => k0_hw29.1
theorem k0_idx58_inb : ∀ (v89 : IVec S16 32) (k0_hw29 : k0_chk29 v89), ∀ a x, ((![v89] : Fin 1 → IVec S16 32) a x).toNat < S1024.size a := fun v89 k0_hw29 => k0_hw29.2
def k0_off69 (k0_t5 : Fin k0_t5_loop.trips) : Fin 2 → Nat :=
  let c4_i32_44 : BitVec 32 := 4#32
  let v97 : Index := Scalar.indexCast c4_i32_44
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v98 : Index := Scalar.indexCast v34
  ![4, v98.toNat]
def k0_off70 (k0_t5 : Fin k0_t5_loop.trips) : Fin 2 → Nat :=
  let c5_i32 : BitVec 32 := 5#32
  let v100 : Index := Scalar.indexCast c5_i32
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v101 : Index := Scalar.indexCast v34
  ![5, v101.toNat]

def k0_chk30 (v102 : IVec S16 32) : Prop :=
  (∀ a x, ((![v102] : Fin 1 → IVec S16 32) a x).toNat < S1024.size a) ∧
  (∀ a x, ((![v102] : Fin 1 → IVec S16 32) a x).toNat < S1024.size a)
theorem k0_idx59_inb : ∀ (v102 : IVec S16 32) (k0_hw30 : k0_chk30 v102), ∀ a x, ((![v102] : Fin 1 → IVec S16 32) a x).toNat < S1024.size a := fun v102 k0_hw30 => k0_hw30.1
theorem k0_idx60_inb : ∀ (v102 : IVec S16 32) (k0_hw30 : k0_chk30 v102), ∀ a x, ((![v102] : Fin 1 → IVec S16 32) a x).toNat < S1024.size a := fun v102 k0_hw30 => k0_hw30.2
def k0_off71 (k0_t5 : Fin k0_t5_loop.trips) : Fin 2 → Nat :=
  let c5_i32_46 : BitVec 32 := 5#32
  let v110 : Index := Scalar.indexCast c5_i32_46
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v111 : Index := Scalar.indexCast v34
  ![5, v111.toNat]
def k0_off72 (k0_t5 : Fin k0_t5_loop.trips) : Fin 2 → Nat :=
  let c6_i32 : BitVec 32 := 6#32
  let v113 : Index := Scalar.indexCast c6_i32
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v114 : Index := Scalar.indexCast v34
  ![6, v114.toNat]

def k0_chk31 (v115 : IVec S16 32) : Prop :=
  (∀ a x, ((![v115] : Fin 1 → IVec S16 32) a x).toNat < S1024.size a) ∧
  (∀ a x, ((![v115] : Fin 1 → IVec S16 32) a x).toNat < S1024.size a)
theorem k0_idx61_inb : ∀ (v115 : IVec S16 32) (k0_hw31 : k0_chk31 v115), ∀ a x, ((![v115] : Fin 1 → IVec S16 32) a x).toNat < S1024.size a := fun v115 k0_hw31 => k0_hw31.1
theorem k0_idx62_inb : ∀ (v115 : IVec S16 32) (k0_hw31 : k0_chk31 v115), ∀ a x, ((![v115] : Fin 1 → IVec S16 32) a x).toNat < S1024.size a := fun v115 k0_hw31 => k0_hw31.2
def k0_off73 (k0_t5 : Fin k0_t5_loop.trips) : Fin 2 → Nat :=
  let c6_i32_48 : BitVec 32 := 6#32
  let v123 : Index := Scalar.indexCast c6_i32_48
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v124 : Index := Scalar.indexCast v34
  ![6, v124.toNat]
def k0_off74 (k0_t5 : Fin k0_t5_loop.trips) : Fin 2 → Nat :=
  let c7_i32 : BitVec 32 := 7#32
  let v126 : Index := Scalar.indexCast c7_i32
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v127 : Index := Scalar.indexCast v34
  ![7, v127.toNat]

def k0_chk32 (v128 : IVec S16 32) : Prop :=
  (∀ a x, ((![v128] : Fin 1 → IVec S16 32) a x).toNat < S1024.size a) ∧
  (∀ a x, ((![v128] : Fin 1 → IVec S16 32) a x).toNat < S1024.size a)
theorem k0_idx63_inb : ∀ (v128 : IVec S16 32) (k0_hw32 : k0_chk32 v128), ∀ a x, ((![v128] : Fin 1 → IVec S16 32) a x).toNat < S1024.size a := fun v128 k0_hw32 => k0_hw32.1
theorem k0_idx64_inb : ∀ (v128 : IVec S16 32) (k0_hw32 : k0_chk32 v128), ∀ a x, ((![v128] : Fin 1 → IVec S16 32) a x).toNat < S1024.size a := fun v128 k0_hw32 => k0_hw32.2
def k0_off75 (k0_t5 : Fin k0_t5_loop.trips) : Fin 2 → Nat :=
  let c7_i32_50 : BitVec 32 := 7#32
  let v136 : Index := Scalar.indexCast c7_i32_50
  let c0_i32_30 : BitVec 32 := 0#32
  let c0_i32_19 : BitVec 32 := 0#32
  let c1_i32_20 : BitVec 32 := 1#32
  let arg29 : BitVec 32 := Scf.iv c0_i32_19 c1_i32_20 k0_t5
  let c1_i32_29 : BitVec 32 := 1#32
  let v32 : BitVec 32 := Scalar.muli arg29 c1_i32_29
  let v33 : BitVec 32 := Scalar.addi c0_i32_30 v32
  let c16_i32_31 : BitVec 32 := 16#32
  let v34 : BitVec 32 := Scalar.muli v33 c16_i32_31
  let v137 : Index := Scalar.indexCast v34
  ![7, v137.toNat]
def k0_off76 (i : grid0.Coords) : Fin 2 → Nat :=
  let c192_i32 : BitVec 32 := 192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![192, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000 : Shape := ⟨1, ![1000]⟩
abbrev S16384x200 : Shape := ⟨2, ![16384, 200]⟩
abbrev S_ : Shape := ⟨0, ![]⟩
abbrev S16384x200x1 : Shape := ⟨3, ![16384, 200, 1]⟩

abbrev nBuf : Space → Nat
  | .hbm => 24
  | .vmem => 0
  | .smem => 0
  | _ => 0

abbrev bufTy : (tb : Table) → Fin (tcTables nBuf tb) → BufTy
  | .hbm, ⟨0, _⟩ => ⟨S1000, .f32⟩
  | .hbm, ⟨1, _⟩ => ⟨S1000, .i32⟩
  | .hbm, ⟨2, _⟩ => ⟨S16384x200, .i32⟩
  | .hbm, ⟨3, _⟩ => ⟨S16384x200, .f32⟩
  | .hbm, ⟨4, _⟩ => ⟨S_, .i32⟩
  | .hbm, ⟨5, _⟩ => ⟨S16384x200, .i32⟩
  | .hbm, ⟨6, _⟩ => ⟨S16384x200, .i1⟩
  | .hbm, ⟨7, _⟩ => ⟨S_, .i32⟩
  | .hbm, ⟨8, _⟩ => ⟨S16384x200, .i32⟩
  | .hbm, ⟨9, _⟩ => ⟨S16384x200, .i32⟩
  | .hbm, ⟨10, _⟩ => ⟨S16384x200, .i32⟩
  | .hbm, ⟨11, _⟩ => ⟨S16384x200x1, .i32⟩
  | .hbm, ⟨12, _⟩ => ⟨S16384x200, .f32⟩
  | .hbm, ⟨13, _⟩ => ⟨S16384x200, .i1⟩
  | .hbm, ⟨14, _⟩ => ⟨S_, .i32⟩
  | .hbm, ⟨15, _⟩ => ⟨S16384x200, .i32⟩
  | .hbm, ⟨16, _⟩ => ⟨S16384x200, .i1⟩
  | .hbm, ⟨17, _⟩ => ⟨S_, .i32⟩
  | .hbm, ⟨18, _⟩ => ⟨S16384x200, .i32⟩
  | .hbm, ⟨19, _⟩ => ⟨S16384x200, .i32⟩
  | .hbm, ⟨20, _⟩ => ⟨S16384x200, .i32⟩
  | .hbm, ⟨21, _⟩ => ⟨S16384x200x1, .i32⟩
  | .hbm, ⟨22, _⟩ => ⟨S16384x200, .i32⟩
  | .hbm, ⟨23, _⟩ => ⟨S16384x200, .i32⟩
  | _, _ => ⟨S1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Rows.lean ====
/-
  The kernel's row step as one program. Every compute loop of the body walks eight rows of a staged chunk, sixteen
  lanes at a time, and each row is the same seven operations; here that row is written once (`rowAt`), a trip of a
  compute loop is eight of them (`tripAt`), and the loop bodies the kernel is printed with are shown to be `tripAt`
  at the buffers of their slot.
-/
module

public import proofs.«01_k».proof.Defs
public import Idealize.ShloMosaic.Lib.SparseCore.Quiescent
public import Idealize.ShloMosaic.Lib.SparseCore.Ops
public import Idealize.ShloMosaic.Lib.Memref
public import Idealize.ShloMosaic.Lib.Transfers
public import proofs.«01_k».proof.Proof.Gen.KernelIdeal
public import proofs.«01_k».proof.Proof.Gen.KernelIdeal.Skeleton

@[expose] public section

noncomputable section

namespace Cert.Proof.Alias

open Cert.KernelIdeal Cert.KernelIdeal.Gen
open Idealize.ShloMosaic Idealize.SL Idealize.SL.Sem

variable {F : FTy → Type} [FloatOps F]

/-- Programs of the vector subcore at grid point `i`. -/
abbrev TileProg (F : FTy → Type) (i : grid0.Coords) (α : Type) : Type 1 :=
  Prog (TpuEff nD τ sig (Elt F) Λ₀ (.scVector ((i 0).castLE hcore0) ((i 1).castLE hsub0))) α

/-- The two tables a subcore keeps in its own memory: the thresholds and the replacements. -/
abbrev probTab : Memref sig .scVector .vmem S1024 .f32 := Memref.whole cc0_scratch0
abbrev aliasTab : Memref sig .scVector .vmem S1024 .i32 := Memref.whole cc0_scratch1

/-- What a staged row yields: the index where its draw is under the index's threshold, else the index's replacement. -/
def rowOut (idx : Vec F S16 .i32) (prob : Vec F S1x16 .f32) (p : Vec F S16 .f32) (a : Vec F S16 .i32) : Vec F S16 .i32 :=
  k0_pay1 idx prob p a

/-- Sixteen lanes read at `ol` and written at `os`: load the indices, check them, load the draws, gather both
    tables, store the choice. -/
def rowProg (i : grid0.Coords) (mi : Memref sig .scVector .vmem S8x512 .i32) (mp : Memref sig .scVector .vmem S8x512 .f32)
    (mo : Memref sig .scVector .vmem S8x512 .i32) (ol os : Fin 2 → ℕ)
    (hl : ∀ a, ol a + S1x16.size a ≤ S8x512.size a) (hs : ∀ a, os a + S1x16.size a ≤ S8x512.size a) : TileProg F i PUnit := do
  let x : Vec F S1x16 .i32 ← Prog.lift (.load mi (Rect.unit (s := S8x512) ol S1x16.size hl).toLoadRect (View.loadsAt_vmem h_S1x16))
  have v : Vec F S16 .i32 := shapeCast S16 x shapeCasts_S1x16_S16
  have hv : k0_chk1 v := (← Prog.lift (TpuEff.assume (k0_chk1 v) (k0_chk1.dec v))).down
  let y : Vec F S1x16 .f32 ← Prog.lift (.load mp (Rect.unit (s := S8x512) ol S1x16.size hl).toLoadRect (View.loadsAt_vmem h_S1x16))
  let p : Vec F S16 .f32 ← SparseCore.vectorLoadIdx probTab ![v] (k0_idx1_inb v hv) (View.loads_vmem h_S1024)
  let a : Vec F S16 .i32 ← SparseCore.vectorLoadIdx aliasTab ![v] (k0_idx2_inb v hv) (View.loads_vmem h_S1024)
  let _z : Vec F S1x16 .i32 ← Prog.lift (.load mo (Rect.unit (s := S8x512) os S1x16.size hs).toLoadRect (View.loadsAt_vmem h_S1x16))
  Prog.lift (.store mo (Rect.unit (s := S8x512) os S1x16.size hs) (shapeCast S1x16 (rowOut v y p a) shapeCasts_S16_S1x16) Finset.univ
    (View.stores_vmem_bits_univ h_S1x16 rfl) (.inl rfl))

/-- The block of sixteen lanes at row `r`, lanes `16 t` on, lies in the chunk. -/
theorem row_inb (r : Fin 8) (t : Fin 32) : ∀ a, (![r.val, 16 * t.val] : Fin 2 → ℕ) a + S1x16.size a ≤ S8x512.size a := by
  have := r.isLt; have := t.isLt
  intro a; fin_cases a <;> simp [S1x16, S8x512] <;> omega

/-- Row `r`, lanes `16 t` to `16 t + 15`. -/
def rowAt (i : grid0.Coords) (mi : Memref sig .scVector .vmem S8x512 .i32) (mp : Memref sig .scVector .vmem S8x512 .f32)
    (mo : Memref sig .scVector .vmem S8x512 .i32) (t : Fin 32) (r : Fin 8) : TileProg F i PUnit :=
  rowProg i mi mp mo ![r.val, 16 * t.val] ![r.val, 16 * t.val] (row_inb r t) (row_inb r t)

/-- A row program whose two offsets are row `r`'s is the row's. -/
theorem rowProg_eq (i : grid0.Coords) (mi : Memref sig .scVector .vmem S8x512 .i32) (mp : Memref sig .scVector .vmem S8x512 .f32)
    (mo : Memref sig .scVector .vmem S8x512 .i32) {t : Fin 32} {r : Fin 8} {ol os : Fin 2 → ℕ}
    {hl : ∀ a, ol a + S1x16.size a ≤ S8x512.size a} {hs : ∀ a, os a + S1x16.size a ≤ S8x512.size a}
    (h₁ : ol = ![r.val, 16 * t.val]) (h₂ : os = ![r.val, 16 * t.val]) :
    (rowProg i mi mp mo ol os hl hs : TileProg F i PUnit) = rowAt i mi mp mo t r := by
  subst h₁; subst h₂; rfl

/-- Eight rows, in order. -/
def rows8 {i : grid0.Coords} (R : Fin 8 → TileProg F i PUnit) : TileProg F i PUnit := do
  R 0; R 1; R 2; R 3; R 4; R 5; R 6; R 7

/-- A trip of a compute loop. -/
def tripAt (i : grid0.Coords) (mi : Memref sig .scVector .vmem S8x512 .i32) (mp : Memref sig .scVector .vmem S8x512 .f32)
    (mo : Memref sig .scVector .vmem S8x512 .i32) (t : Fin 32) : TileProg F i PUnit :=
  rows8 (rowAt i mi mp mo t)

section Printed

variable (i : grid0.Coords)
  (arg2 : Memref sig .scVector .hbm S1024 .f32) (harg2 : arg2.IsWhole) (arg3 : Memref sig .scVector .hbm S1024 .i32) (harg3 : arg3.IsWhole)
  (arg4 : Memref sig .scVector .hbm S200x16384 .i32) (harg4 : arg4.IsWhole) (arg5 : Memref sig .scVector .hbm S200x16384 .f32) (harg5 : arg5.IsWhole)
  (arg6 : Memref sig .scVector .hbm S200x16384 .i32) (harg6 : arg6.IsWhole) (harg7 : probTab.IsWhole) (harg8 : aliasTab.IsWhole)
  (arg9 : Memref sig .scVector .vmem S8x512 .i32) (harg9 : arg9.IsWhole) (arg10 : Memref sig .scVector .vmem S8x512 .i32) (harg10 : arg10.IsWhole)
  (arg11 : Memref sig .scVector .vmem S8x512 .i32) (harg11 : arg11.IsWhole) (arg12 : Memref sig .scVector .vmem S8x512 .f32) (harg12 : arg12.IsWhole)
  (arg13 : Memref sig .scVector .vmem S8x512 .f32) (harg13 : arg13.IsWhole) (arg14 : Memref sig .scVector .vmem S8x512 .f32) (harg14 : arg14.IsWhole)
  (arg15 : Memref sig .scVector .vmem S8x512 .i32) (harg15 : arg15.IsWhole) (arg16 : Memref sig .scVector .vmem S8x512 .i32) (harg16 : arg16.IsWhole)
  (arg17 : Memref sig .scVector .vmem S8x512 .i32) (harg17 : arg17.IsWhole)
  (s18 s19 s20 s21 s22 s23 s24 s25 s26 s27 s28 : DmaSems sig S_)

/-- The first slot's compute trip, in the ring, is the eight rows at its buffers. -/
theorem t2_eq (x y : BitVec 32) (k : Fin k0_t1_loop.trips) (t : Fin k0_t2_loop.trips) (u : Unit) :
    k0_t2_body (F := F) i arg2 harg2 arg3 harg3 arg4 harg4 arg5 harg5 arg6 harg6 probTab harg7 aliasTab harg8 arg9 harg9 arg10 harg10 arg11 harg11
      arg12 harg12 arg13 harg13 arg14 harg14 arg15 harg15 arg16 harg16 arg17 harg17 s18 s19 s20 s21 s22 s23 s24 s25 s26 s27 s28 x y k t u
      = tripAt i arg9 arg12 arg15 t := by
  refine (show _ = (do
      rowProg i arg9 arg12 arg15 (k0_off6 t) (k0_off7 t) (k0_off6_inb t) (k0_off7_inb t)
      rowProg i arg9 arg12 arg15 (k0_off8 t) (k0_off9 t) (k0_off8_inb t) (k0_off9_inb t)
      rowProg i arg9 arg12 arg15 (k0_off10 t) (k0_off11 t) (k0_off10_inb t) (k0_off11_inb t)
      rowProg i arg9 arg12 arg15 (k0_off12 t) (k0_off13 t) (k0_off12_inb t) (k0_off13_inb t)
      rowProg i arg9 arg12 arg15 (k0_off14 t) (k0_off15 t) (k0_off14_inb t) (k0_off15_inb t)
      rowProg i arg9 arg12 arg15 (k0_off16 t) (k0_off17 t) (k0_off16_inb t) (k0_off17_inb t)
      rowProg i arg9 arg12 arg15 (k0_off18 t) (k0_off19 t) (k0_off18_inb t) (k0_off19_inb t)
      rowProg i arg9 arg12 arg15 (k0_off20 t) (k0_off21 t) (k0_off20_inb t) (k0_off21_inb t) : TileProg F i PUnit) from rfl).trans ?_
  rw [rowProg_eq (t := t) (r := 0) i _ _ _ (k0_off6_eq t) (k0_off7_eq t),
    rowProg_eq (t := t) (r := 1) i _ _ _ (k0_off8_eq t) (k0_off9_eq t),
    rowProg_eq (t := t) (r := 2) i _ _ _ (k0_off10_eq t) (k0_off11_eq t),
    rowProg_eq (t := t) (r := 3) i _ _ _ (k0_off12_eq t) (k0_off13_eq t),
    rowProg_eq (t := t) (r := 4) i _ _ _ (k0_off14_eq t) (k0_off15_eq t),
    rowProg_eq (t := t) (r := 5) i _ _ _ (k0_off16_eq t) (k0_off17_eq t),
    rowProg_eq (t := t) (r := 6) i _ _ _ (k0_off18_eq t) (k0_off19_eq t),
    rowProg_eq (t := t) (r := 7) i _ _ _ (k0_off20_eq t) (k0_off21_eq t)]
  rfl

/-- The second slot's compute trip is the eight rows at its buffers. -/
theorem t3_eq (x : BitVec 32) (t : Fin k0_t3_loop.trips) (u : Unit) :
    k0_t3_body (F := F) i arg2 harg2 arg3 harg3 arg4 harg4 arg5 harg5 arg6 harg6 probTab harg7 aliasTab harg8 arg9 harg9 arg10 harg10 arg11 harg11
      arg12 harg12 arg13 harg13 arg14 harg14 arg15 harg15 arg16 harg16 arg17 harg17 s18 s19 s20 s21 s22 s23 s24 s25 s26 s27 s28 x t u
      = tripAt i arg10 arg13 arg16 t := by
  refine (show _ = (do
      rowProg i arg10 arg13 arg16 (k0_off25 t) (k0_off26 t) (k0_off25_inb t) (k0_off26_inb t)
      rowProg i arg10 arg13 arg16 (k0_off27 t) (k0_off28 t) (k0_off27_inb t) (k0_off28_inb t)
      rowProg i arg10 arg13 arg16 (k0_off29 t) (k0_off30 t) (k0_off29_inb t) (k0_off30_inb t)
      rowProg i arg10 arg13 arg16 (k0_off31 t) (k0_off32 t) (k0_off31_inb t) (k0_off32_inb t)
      rowProg i arg10 arg13 arg16 (k0_off33 t) (k0_off34 t) (k0_off33_inb t) (k0_off34_inb t)
      rowProg i arg10 arg13 arg16 (k0_off35 t) (k0_off36 t) (k0_off35_inb t) (k0_off36_inb t)
      rowProg i arg10 arg13 arg16 (k0_off37 t) (k0_off38 t) (k0_off37_inb t) (k0_off38_inb t)
      rowProg i arg10 arg13 arg16 (k0_off39 t) (k0_off40 t) (k0_off39_inb t) (k0_off40_inb t) : TileProg F i PUnit) from rfl).trans ?_
  rw [rowProg_eq (t := t) (r := 0) i _ _ _ (k0_off25_eq t) (k0_off26_eq t),
    rowProg_eq (t := t) (r := 1) i _ _ _ (k0_off27_eq t) (k0_off28_eq t),
    rowProg_eq (t := t) (r := 2) i _ _ _ (k0_off29_eq t) (k0_off30_eq t),
    rowProg_eq (t := t) (r := 3) i _ _ _ (k0_off31_eq t) (k0_off32_eq t),
    rowProg_eq (t := t) (r := 4) i _ _ _ (k0_off33_eq t) (k0_off34_eq t),
    rowProg_eq (t := t) (r := 5) i _ _ _ (k0_off35_eq t) (k0_off36_eq t),
    rowProg_eq (t := t) (r := 6) i _ _ _ (k0_off37_eq t) (k0_off38_eq t),
    rowProg_eq (t := t) (r := 7) i _ _ _ (k0_off39_eq t) (k0_off40_eq t)]
  rfl

/-- The third slot's compute trip is the eight rows at its buffers. -/
theorem t4_eq (t : Fin k0_t4_loop.trips) (u : Unit) :
    k0_t4_body (F := F) i arg2 harg2 arg3 harg3 arg4 harg4 arg5 harg5 arg6 harg6 probTab harg7 aliasTab harg8 arg9 harg9 arg10 harg10 arg11 harg11
      arg12 harg12 arg13 harg13 arg14 harg14 arg15 harg15 arg16 harg16 arg17 harg17 s18 s19 s20 s21 s22 s23 s24 s25 s26 s27 s28  t u
      = tripAt i arg11 arg14 arg17 t := by
  refine (show _ = (do
      rowProg i arg11 arg14 arg17 (k0_off43 t) (k0_off44 t) (k0_off43_inb t) (k0_off44_inb t)
      rowProg i arg11 arg14 arg17 (k0_off45 t) (k0_off46 t) (k0_off45_inb t) (k0_off46_inb t)
      rowProg i arg11 arg14 arg17 (k0_off47 t) (k0_off48 t) (k0_off47_inb t) (k0_off48_inb t)
      rowProg i arg11 arg14 arg17 (k0_off49 t) (k0_off50 t) (k0_off49_inb t) (k0_off50_inb t)
      rowProg i arg11 arg14 arg17 (k0_off51 t) (k0_off52 t) (k0_off51_inb t) (k0_off52_inb t)
      rowProg i arg11 arg14 arg17 (k0_off53 t) (k0_off54 t) (k0_off53_inb t) (k0_off54_inb t)
      rowProg i arg11 arg14 arg17 (k0_off55 t) (k0_off56 t) (k0_off55_inb t) (k0_off56_inb t)
      rowProg i arg11 arg14 arg17 (k0_off57 t) (k0_off58 t) (k0_off57_inb t) (k0_off58_inb t) : TileProg F i PUnit) from rfl).trans ?_
  rw [rowProg_eq (t := t) (r := 0) i _ _ _ (k0_off43_eq t) (k0_off44_eq t),
    rowProg_eq (t := t) (r := 1) i _ _ _ (k0_off45_eq t) (k0_off46_eq t),
    rowProg_eq (t := t) (r := 2) i _ _ _ (k0_off47_eq t) (k0_off48_eq t),
    rowProg_eq (t := t) (r := 3) i _ _ _ (k0_off49_eq t) (k0_off50_eq t),
    rowProg_eq (t := t) (r := 4) i _ _ _ (k0_off51_eq t) (k0_off52_eq t),
    rowProg_eq (t := t) (r := 5) i _ _ _ (k0_off53_eq t) (k0_off54_eq t),
    rowProg_eq (t := t) (r := 6) i _ _ _ (k0_off55_eq t) (k0_off56_eq t),
    rowProg_eq (t := t) (r := 7) i _ _ _ (k0_off57_eq t) (k0_off58_eq t)]
  rfl

/-- The compute trip after the ring is the eight rows at the first slot's buffers. -/
theorem t5_eq (t : Fin k0_t5_loop.trips) (u : Unit) :
    k0_t5_body (F := F) i arg2 harg2 arg3 harg3 arg4 harg4 arg5 harg5 arg6 harg6 probTab harg7 aliasTab harg8 arg9 harg9 arg10 harg10 arg11 harg11
      arg12 harg12 arg13 harg13 arg14 harg14 arg15 harg15 arg16 harg16 arg17 harg17 s18 s19 s20 s21 s22 s23 s24 s25 s26 s27 s28  t u
      = tripAt i arg9 arg12 arg15 t := by
  refine (show _ = (do
      rowProg i arg9 arg12 arg15 (k0_off60 t) (k0_off61 t) (k0_off60_inb t) (k0_off61_inb t)
      rowProg i arg9 arg12 arg15 (k0_off62 t) (k0_off63 t) (k0_off62_inb t) (k0_off63_inb t)
      rowProg i arg9 arg12 arg15 (k0_off64 t) (k0_off65 t) (k0_off64_inb t) (k0_off65_inb t)
      rowProg i arg9 arg12 arg15 (k0_off66 t) (k0_off67 t) (k0_off66_inb t) (k0_off67_inb t)
      rowProg i arg9 arg12 arg15 (k0_off68 t) (k0_off69 t) (k0_off68_inb t) (k0_off69_inb t)
      rowProg i arg9 arg12 arg15 (k0_off70 t) (k0_off71 t) (k0_off70_inb t) (k0_off71_inb t)
      rowProg i arg9 arg12 arg15 (k0_off72 t) (k0_off73 t) (k0_off72_inb t) (k0_off73_inb t)
      rowProg i arg9 arg12 arg15 (k0_off74 t) (k0_off75 t) (k0_off74_inb t) (k0_off75_inb t) : TileProg F i PUnit) from rfl).trans ?_
  rw [rowProg_eq (t := t) (r := 0) i _ _ _ (k0_off60_eq t) (k0_off61_eq t),
    rowProg_eq (t := t) (r := 1) i _ _ _ (k0_off62_eq t) (k0_off63_eq t),
    rowProg_eq (t := t) (r := 2) i _ _ _ (k0_off64_eq t) (k0_off65_eq t),
    rowProg_eq (t := t) (r := 3) i _ _ _ (k0_off66_eq t) (k0_off67_eq t),
    rowProg_eq (t := t) (r := 4) i _ _ _ (k0_off68_eq t) (k0_off69_eq t),
    rowProg_eq (t := t) (r := 5) i _ _ _ (k0_off70_eq t) (k0_off71_eq t),
    rowProg_eq (t := t) (r := 6) i _ _ _ (k0_off72_eq t) (k0_off73_eq t),
    rowProg_eq (t := t) (r := 7) i _ _ _ (k0_off74_eq t) (k0_off75_eq t)]
  rfl

end Printed

end Cert.Proof.Alias
-- ==== Proof.Body.lean ====
/-
  The kernel's body in words of its own: a ring of three slots, each with staging buffers for indices, draws and
  results and a semaphore for each; a stage waits for a slot's chunk, computes it, sends the result out and asks for
  the slot's next chunk. The printed body is shown to be this program.
-/
module

public import proofs.«01_k».proof.Proof.Rows

@[expose] public section

noncomputable section

namespace Cert.Proof.Alias

open Cert.KernelIdeal Cert.KernelIdeal.Gen
open Idealize.ShloMosaic Idealize.SL Idealize.SL.Sem

variable {F : FTy → Type} [FloatOps F]

/-- A slot of the ring: its staging buffers for indices, draws and results, and the semaphores of their copies. -/
structure Slot where
  mi : Memref sig .scVector .vmem S8x512 .i32
  mp : Memref sig .scVector .vmem S8x512 .f32
  mo : Memref sig .scVector .vmem S8x512 .i32
  hi : mi.IsWhole
  hp : mp.IsWhole
  ho : mo.IsWhole
  si : DmaSem sig
  sp : DmaSem sig
  so : DmaSem sig

/-- The three slots. -/
def slot0 : Slot := ⟨Memref.whole cc0_scratch2, Memref.whole cc0_scratch5, Memref.whole cc0_scratch8, Memref.isWhole_whole _, Memref.isWhole_whole _, Memref.isWhole_whole _, cc0_scratch11.sem, cc0_scratch14.sem, cc0_scratch17.sem⟩
def slot1 : Slot := ⟨Memref.whole cc0_scratch3, Memref.whole cc0_scratch6, Memref.whole cc0_scratch9, Memref.isWhole_whole _, Memref.isWhole_whole _, Memref.isWhole_whole _, cc0_scratch12.sem, cc0_scratch15.sem, cc0_scratch18.sem⟩
def slot2 : Slot := ⟨Memref.whole cc0_scratch4, Memref.whole cc0_scratch7, Memref.whole cc0_scratch10, Memref.isWhole_whole _, Memref.isWhole_whole _, Memref.isWhole_whole _, cc0_scratch13.sem, cc0_scratch16.sem, cc0_scratch19.sem⟩

/-- The arrays in main memory: thresholds and replacements, padded; indices and draws, transposed; the results. -/
abbrev probH : Memref sig .scVector .hbm S1024 .f32 := Memref.whole main_v0_scv
abbrev aliasH : Memref sig .scVector .hbm S1024 .i32 := Memref.whole main_v1_scv
abbrev idxH : Memref sig .scVector .hbm S200x16384 .i32 := Memref.whole main_v2_scv
abbrev drawH : Memref sig .scVector .hbm S200x16384 .f32 := Memref.whole main_v3_scv
abbrev outH : Memref sig .scVector .hbm S200x16384 .i32 := Memref.whole main_v4_scv

/-- Chunk `j` of subcore `i`'s columns: rows `8 j` to `8 j + 7`, 512 columns. -/
def chunkOff (i : grid0.Coords) (j : ℕ) : Fin 2 → ℕ := ![8 * j, 1024 * (i 1).val + 512 * (i 0).val]

/-- Every chunk of eight rows and a tile's 512 columns lies within the array. -/
theorem chunk_inb (i : grid0.Coords) (j : Fin 25) : ∀ a, chunkOff i j.val a + S8x512.size a ≤ S200x16384.size a := by
  have h0 : (i 0).val < 2 := (i 0).isLt
  have h1 : (i 1).val < 16 := (i 1).isLt
  have := j.isLt
  intro a; fin_cases a <;> simp [chunkOff, S8x512, S200x16384] <;> omega

/-- The chunk as a rectangle of the arrays. -/
abbrev chunkRect (i : grid0.Coords) (j : Fin 25) : Rect S200x16384 := Rect.unit (s := S200x16384) (chunkOff i j.val) S8x512.size (chunk_inb i j)

/-- The chunk of an array in main memory. -/
abbrev chunkOf {e : EltTy} (m : Memref sig .scVector .hbm S200x16384 e) (i : grid0.Coords) (j : Fin 25) : Memref sig .scVector .hbm S8x512 e :=
  m.slice (chunkRect i j) (fun _ => rfl)

/-- Ask for chunk `j` of the indices and of the draws. -/
def issueIn (i : grid0.Coords) (B : Slot) (j : Fin 25) : TileProg F i PUnit := do
  Prog.lift (.enqueueDma (chunkOf idxH i j) (.here B.mi) (.dma B.si) (View.wordExact_bits rfl) B.hi.wordExact ⟨Or.inl rfl, trivial⟩)
  Prog.lift (.enqueueDma (chunkOf drawH i j) (.here B.mp) (.dma B.sp) (View.wordExact_bits rfl) B.hp.wordExact ⟨Or.inl rfl, trivial⟩)

/-- Wait for the slot's chunk of indices and of draws. -/
def waitIn (i : grid0.Coords) (B : Slot) : TileProg F i PUnit := do
  Prog.lift (.waitDma2 B.si (chunkOf idxH i 0) B.mi (View.wordExact_bits rfl) B.hi.wordExact)
  Prog.lift (.waitDma2 B.sp (chunkOf drawH i 0) B.mp (View.wordExact_bits rfl) B.hp.wordExact)

/-- Send the slot's results to chunk `j` of the result array. -/
def issueOut (i : grid0.Coords) (B : Slot) (j : Fin 25) : TileProg F i PUnit :=
  Prog.lift (.enqueueDma B.mo (.here (chunkOf outH i j)) (.dma B.so) B.ho.wordExact (View.wordExact_bits rfl) ⟨Or.inl rfl, trivial⟩)

/-- Wait until the slot's results have left. -/
def waitOut (i : grid0.Coords) (B : Slot) : TileProg F i PUnit :=
  Prog.lift (.waitDma2 B.so B.mo (chunkOf outH i 0) B.ho.wordExact (View.wordExact_bits rfl))

/-- A chunk's computation takes thirty-two trips, -/
theorem lanes_lt (t : Fin k0_t2_loop.trips) : t.val < 32 := t.isLt

/-- Compute the slot's chunk: thirty-two trips. -/
def compute (i : grid0.Coords) (B : Slot) : TileProg F i PUnit :=
  Scf.Loop.for k0_t2_loop k0_t2_ok ⟨⟩ (fun t _ => tripAt i B.mi B.mp B.mo ⟨t.val, lanes_lt t⟩)

/-- Before stage `n` computes: wait for the results the slot sent three stages ago, if there was such a stage. -/
def drain (i : grid0.Coords) (B : Slot) (n : Fin 24) : TileProg F i PUnit := if 3 ≤ n.val then waitOut i B else pure ⟨⟩

/-- After stage `n`: ask for the chunk three stages on, if there is one. -/
def refill (i : grid0.Coords) (B : Slot) (n : Fin 24) : TileProg F i PUnit := if h : n.val + 3 < 25 then issueIn i B ⟨n.val + 3, h⟩ else pure ⟨⟩

/-- Stage `n` of the ring, at its slot. -/
def stage (i : grid0.Coords) (B : Slot) (n : Fin 24) : TileProg F i PUnit := do
  waitIn i B
  drain i B n
  compute i B
  issueOut i B ⟨n.val, by omega⟩
  refill i B n

/-- and the ring eight. -/
theorem ring_lt (k : Fin k0_t1_loop.trips) : k.val < 8 := k.isLt

/-- A trip of the ring: a stage at each slot. -/
def ringTrip (i : grid0.Coords) (k : Fin k0_t1_loop.trips) : TileProg F i PUnit :=
  have := ring_lt k
  do
  stage i slot0 ⟨3 * k.val, by omega⟩
  stage i slot1 ⟨3 * k.val + 1, by omega⟩
  stage i slot2 ⟨3 * k.val + 2, by omega⟩

/-- The body. -/
def body (i : grid0.Coords) : TileProg F i PUnit := do
  Prog.lift (.enqueueDma probH (.here probTab) (.dma cc0_scratch20.sem) (Memref.isWhole_whole _).wordExact (Memref.isWhole_whole _).wordExact ⟨Or.inl rfl, trivial⟩)
  Prog.lift (.enqueueDma aliasH (.here aliasTab) (.dma cc0_scratch21.sem) (Memref.isWhole_whole _).wordExact (Memref.isWhole_whole _).wordExact ⟨Or.inl rfl, trivial⟩)
  issueIn i slot0 0
  issueIn i slot1 1
  issueIn i slot2 2
  Prog.lift (.waitDma2 cc0_scratch20.sem probH probTab (Memref.isWhole_whole _).wordExact (Memref.isWhole_whole _).wordExact)
  Prog.lift (.waitDma2 cc0_scratch21.sem aliasH aliasTab (Memref.isWhole_whole _).wordExact (Memref.isWhole_whole _).wordExact)
  let _x : BitVec 32 ← Scf.Loop.for k0_t1_loop k0_t1_ok 0#32 (fun k _ => do ringTrip i k; pure 0#32)
  waitIn i slot0
  waitOut i slot0
  compute i slot0
  issueOut i slot0 24
  waitOut i slot1
  waitOut i slot2
  waitOut i slot0

/-! ## The printed body is this one -/

section Printed

variable (i : grid0.Coords) (B : Slot) (o : Fin 2 → ℕ) (h : ∀ a, o a + S8x512.size a ≤ S200x16384.size a)

/-- The four transfers of a stage at an offset the kernel computes. -/
def issueInO : TileProg F i PUnit := do
  Prog.lift (.enqueueDma (idxH.slice (Rect.unit (s := S200x16384) o S8x512.size h) (fun _ => rfl)) (.here B.mi) (.dma B.si) (View.wordExact_bits rfl) B.hi.wordExact ⟨Or.inl rfl, trivial⟩)
  Prog.lift (.enqueueDma (drawH.slice (Rect.unit (s := S200x16384) o S8x512.size h) (fun _ => rfl)) (.here B.mp) (.dma B.sp) (View.wordExact_bits rfl) B.hp.wordExact ⟨Or.inl rfl, trivial⟩)
def waitInO : TileProg F i PUnit := do
  Prog.lift (.waitDma2 B.si (idxH.slice (Rect.unit (s := S200x16384) o S8x512.size h) (fun _ => rfl)) B.mi (View.wordExact_bits rfl) B.hi.wordExact)
  Prog.lift (.waitDma2 B.sp (drawH.slice (Rect.unit (s := S200x16384) o S8x512.size h) (fun _ => rfl)) B.mp (View.wordExact_bits rfl) B.hp.wordExact)
def issueOutO : TileProg F i PUnit :=
  Prog.lift (.enqueueDma B.mo (.here (outH.slice (Rect.unit (s := S200x16384) o S8x512.size h) (fun _ => rfl))) (.dma B.so) B.ho.wordExact (View.wordExact_bits rfl) ⟨Or.inl rfl, trivial⟩)
def waitOutO : TileProg F i PUnit :=
  Prog.lift (.waitDma2 B.so B.mo (outH.slice (Rect.unit (s := S200x16384) o S8x512.size h) (fun _ => rfl)) B.ho.wordExact (View.wordExact_bits rfl))

variable {o h}

/-- At a chunk's offset they are the chunk's. -/
theorem issueInO_eq {j : Fin 25} (e : o = chunkOff i j.val) : (issueInO i B o h : TileProg F i PUnit) = issueIn i B j := by subst e; rfl
/-- At a chunk's own offset the wait for the two inputs is the plain one. -/
theorem waitInO_eq (e : o = chunkOff i 0) : (waitInO i B o h : TileProg F i PUnit) = waitIn i B := by subst e; rfl
/-- At a chunk's own offset the copy out is the plain one. -/
theorem issueOutO_eq {j : Fin 25} (e : o = chunkOff i j.val) : (issueOutO i B o h : TileProg F i PUnit) = issueOut i B j := by subst e; rfl
/-- At a chunk's own offset the wait for the copy out is the plain one. -/
theorem waitOutO_eq (e : o = chunkOff i 0) : (waitOutO i B o h : TileProg F i PUnit) = waitOut i B := by subst e; rfl

end Printed

/-- A stage as it is printed: its offsets and its two conditions are words the kernel computes. -/
def stageRaw (i : grid0.Coords) (B : Slot) (o₁ : Fin 2 → ℕ) (h₁ : ∀ a, o₁ a + S8x512.size a ≤ S200x16384.size a)
    (p : BitVec 1) (o₂ : Fin 2 → ℕ) (h₂ : p = 1#1 → ∀ a, o₂ a + S8x512.size a ≤ S200x16384.size a)
    (o₃ : Fin 2 → ℕ) (h₃ : ∀ a, o₃ a + S8x512.size a ≤ S200x16384.size a)
    (q : BitVec 1) (o₄ : Fin 2 → ℕ) (h₄ : q = 1#1 → ∀ a, o₄ a + S8x512.size a ≤ S200x16384.size a) : TileProg F i PUnit := do
  waitInO i B o₁ h₁
  if h : p = 1#1 then waitOutO i B o₂ (h₂ h) else pure ⟨⟩
  compute i B
  issueOutO i B o₃ h₃
  if h : q = 1#1 then issueInO i B o₄ (h₄ h) else pure ⟨⟩

/-- Where the words are the stage's chunks and its conditions the stage's, the printed stage is the stage. -/
theorem stageRaw_eq (i : grid0.Coords) (B : Slot) (n : Fin 24) {o₁ o₂ o₃ o₄ : Fin 2 → ℕ} {p q : BitVec 1}
    {h₁ : ∀ a, o₁ a + S8x512.size a ≤ S200x16384.size a} {h₂ : p = 1#1 → ∀ a, o₂ a + S8x512.size a ≤ S200x16384.size a}
    {h₃ : ∀ a, o₃ a + S8x512.size a ≤ S200x16384.size a} {h₄ : q = 1#1 → ∀ a, o₄ a + S8x512.size a ≤ S200x16384.size a}
    (e₁ : o₁ = chunkOff i 0) (e₂ : o₂ = chunkOff i 0) (e₃ : o₃ = chunkOff i n.val) (e₄ : o₄ = chunkOff i (n.val + 3))
    (hp : p = 1#1 ↔ 3 ≤ n.val) (hq : q = 1#1 ↔ n.val + 3 < 25) :
    (stageRaw i B o₁ h₁ p o₂ h₂ o₃ h₃ q o₄ h₄ : TileProg F i PUnit) = stage i B n := by
  subst e₁ e₂ e₃ e₄
  unfold stageRaw stage drain refill
  by_cases hP : p = 1#1 <;> by_cases hQ : q = 1#1
  · simp only [dif_pos hP, if_pos (hp.mp hP), dif_pos hQ, dif_pos (hq.mp hQ)]; rfl
  · simp only [dif_pos hP, if_pos (hp.mp hP), dif_neg hQ, dif_neg (fun h => hQ (hq.mpr h))]; rfl
  · simp only [dif_neg hP, if_neg (fun h => hP (hp.mpr h)), dif_pos hQ, dif_pos (hq.mp hQ)]; rfl
  · simp only [dif_neg hP, if_neg (fun h => hP (hp.mpr h)), dif_neg hQ, dif_neg (fun h => hQ (hq.mpr h))]; rfl

/-- An offset whose row is `8 j` is chunk `j`'s. -/
theorem off_chunk (i : grid0.Coords) {a j : ℕ} (h : a = 8 * j) :
    (![a, 1024 * (i 1).val + 512 * (i 0).val] : Fin 2 → ℕ) = chunkOff i j := by subst h; rfl

/-- In trip `k` a slot waits for results of its own once a trip has passed, -/
theorem cond_first : ∀ k : Fin k0_t1_loop.trips, (k0_cond1 k = 1#1 ↔ 3 ≤ 3 * k.val) ∧ (k0_cond3 k = 1#1 ↔ 3 ≤ 3 * k.val + 1) ∧ (k0_cond5 k = 1#1 ↔ 3 ≤ 3 * k.val + 2) := by decide +kernel
/-- and asks for its next chunk while there is one. -/
theorem cond_next : ∀ k : Fin k0_t1_loop.trips, (k0_cond2 k = 1#1 ↔ 3 * k.val + 3 < 25) ∧ (k0_cond4 k = 1#1 ↔ 3 * k.val + 1 + 3 < 25) ∧ (k0_cond6 k = 1#1 ↔ 3 * k.val + 2 + 3 < 25) := by decide +kernel

/-- The six conditions of a trip are two. -/
theorem cond_same : ∀ k : Fin k0_t1_loop.trips, (k0_cond3 k = 1#1 ↔ k0_cond1 k = 1#1) ∧ (k0_cond5 k = 1#1 ↔ k0_cond1 k = 1#1) ∧ k0_cond2 k = 1#1 ∧ (k0_cond6 k = 1#1 ↔ k0_cond4 k = 1#1) := by decide +kernel

/-- A trip of the printed ring is the three stages. -/
theorem t1_eq (i : grid0.Coords) (k : Fin k0_t1_loop.trips) (x : BitVec 32) :
    k0_t1_body (F := F) i probH (Memref.isWhole_whole _) aliasH (Memref.isWhole_whole _) idxH (Memref.isWhole_whole _) drawH (Memref.isWhole_whole _) outH (Memref.isWhole_whole _) probTab (Memref.isWhole_whole _) aliasTab (Memref.isWhole_whole _)
      slot0.mi slot0.hi slot1.mi slot1.hi slot2.mi slot2.hi slot0.mp slot0.hp slot1.mp slot1.hp slot2.mp slot2.hp slot0.mo slot0.ho slot1.mo slot1.ho slot2.mo slot2.ho
      cc0_scratch11 cc0_scratch12 cc0_scratch13 cc0_scratch14 cc0_scratch15 cc0_scratch16 cc0_scratch17 cc0_scratch18 cc0_scratch19 cc0_scratch20 cc0_scratch21 k x
      = (do ringTrip i k; pure 0#32) := by
  have e₂ (x y : BitVec 32) : k0_t2_body (F := F) i probH (Memref.isWhole_whole _) aliasH (Memref.isWhole_whole _) idxH (Memref.isWhole_whole _) drawH (Memref.isWhole_whole _) outH (Memref.isWhole_whole _) probTab (Memref.isWhole_whole _) aliasTab (Memref.isWhole_whole _)
      slot0.mi slot0.hi slot1.mi slot1.hi slot2.mi slot2.hi slot0.mp slot0.hp slot1.mp slot1.hp slot2.mp slot2.hp slot0.mo slot0.ho slot1.mo slot1.ho slot2.mo slot2.ho
      cc0_scratch11 cc0_scratch12 cc0_scratch13 cc0_scratch14 cc0_scratch15 cc0_scratch16 cc0_scratch17 cc0_scratch18 cc0_scratch19 cc0_scratch20 cc0_scratch21 x y k
      = fun t _ => tripAt i slot0.mi slot0.mp slot0.mo ⟨t.val, lanes_lt t⟩ := funext fun t => funext fun u => t2_eq (F := F) ..
  have e₃ (x : BitVec 32) : k0_t3_body (F := F) i probH (Memref.isWhole_whole _) aliasH (Memref.isWhole_whole _) idxH (Memref.isWhole_whole _) drawH (Memref.isWhole_whole _) outH (Memref.isWhole_whole _) probTab (Memref.isWhole_whole _) aliasTab (Memref.isWhole_whole _)
      slot0.mi slot0.hi slot1.mi slot1.hi slot2.mi slot2.hi slot0.mp slot0.hp slot1.mp slot1.hp slot2.mp slot2.hp slot0.mo slot0.ho slot1.mo slot1.ho slot2.mo slot2.ho
      cc0_scratch11 cc0_scratch12 cc0_scratch13 cc0_scratch14 cc0_scratch15 cc0_scratch16 cc0_scratch17 cc0_scratch18 cc0_scratch19 cc0_scratch20 cc0_scratch21 x
      = fun t _ => tripAt i slot1.mi slot1.mp slot1.mo ⟨t.val, lanes_lt t⟩ := funext fun t => funext fun u => t3_eq (F := F) ..
  have e₄ : k0_t4_body (F := F) i probH (Memref.isWhole_whole _) aliasH (Memref.isWhole_whole _) idxH (Memref.isWhole_whole _) drawH (Memref.isWhole_whole _) outH (Memref.isWhole_whole _) probTab (Memref.isWhole_whole _) aliasTab (Memref.isWhole_whole _)
      slot0.mi slot0.hi slot1.mi slot1.hi slot2.mi slot2.hi slot0.mp slot0.hp slot1.mp slot1.hp slot2.mp slot2.hp slot0.mo slot0.ho slot1.mo slot1.ho slot2.mo slot2.ho
      cc0_scratch11 cc0_scratch12 cc0_scratch13 cc0_scratch14 cc0_scratch15 cc0_scratch16 cc0_scratch17 cc0_scratch18 cc0_scratch19 cc0_scratch20 cc0_scratch21
      = fun t _ => tripAt i slot2.mi slot2.mp slot2.mo ⟨t.val, lanes_lt t⟩ := funext fun t => funext fun u => t4_eq (F := F) ..
  have e : k0_t1_body (F := F) i probH (Memref.isWhole_whole _) aliasH (Memref.isWhole_whole _) idxH (Memref.isWhole_whole _) drawH (Memref.isWhole_whole _) outH (Memref.isWhole_whole _) probTab (Memref.isWhole_whole _) aliasTab (Memref.isWhole_whole _)
      slot0.mi slot0.hi slot1.mi slot1.hi slot2.mi slot2.hi slot0.mp slot0.hp slot1.mp slot1.hp slot2.mp slot2.hp slot0.mo slot0.ho slot1.mo slot1.ho slot2.mo slot2.ho
      cc0_scratch11 cc0_scratch12 cc0_scratch13 cc0_scratch14 cc0_scratch15 cc0_scratch16 cc0_scratch17 cc0_scratch18 cc0_scratch19 cc0_scratch20 cc0_scratch21 k x
      = (do
        stageRaw i slot0 (k0_off4 i) (k0_off4_inb i) (k0_cond1 k) (k0_off5 i) (k0_off5_inb i k) (k0_off22 i k 0#32) (k0_off22_inb i k 0) (k0_cond2 k) (k0_off23 i k) (k0_off23_inb i k)
        stageRaw i slot1 (k0_off4 i) (k0_off4_inb i) (k0_cond3 k) (k0_off24 i) (k0_off24_inb i k) (k0_off22 i k 1#32) (k0_off22_inb i k 1) (k0_cond4 k) (k0_off41 i k) (k0_off41_inb i k)
        stageRaw i slot2 (k0_off4 i) (k0_off4_inb i) (k0_cond5 k) (k0_off42 i) (k0_off42_inb i k) (k0_off22 i k 2#32) (k0_off22_inb i k 2) (k0_cond6 k) (k0_off59 i k) (k0_off59_inb i k)
        pure 0#32) := by
    unfold k0_t1_body
    rw [k0_part7_eq_skeleton]
    unfold k0_part7_skel stageRaw waitInO waitOutO issueOutO issueInO
    obtain ⟨h₃, h₅, c₀, h₆⟩ := cond_same k
    by_cases c₁ : k0_cond1 k = 1#1 <;> by_cases c₂ : k0_cond4 k = 1#1
    · simp only [e₂, e₃, e₄, dif_pos c₀, dif_pos c₁, dif_pos (h₃.mpr c₁), dif_pos (h₅.mpr c₁), dif_pos c₂, dif_pos (h₆.mpr c₂), bind_assoc, pure_bind]
      rfl
    · simp only [e₂, e₃, e₄, dif_pos c₀, dif_pos c₁, dif_pos (h₃.mpr c₁), dif_pos (h₅.mpr c₁), dif_neg c₂, dif_neg (fun h => c₂ (h₆.mp h)), bind_assoc, pure_bind]
      rfl
    · simp only [e₂, e₃, e₄, dif_pos c₀, dif_neg c₁, dif_neg (fun h => c₁ (h₃.mp h)), dif_neg (fun h => c₁ (h₅.mp h)), dif_pos c₂, dif_pos (h₆.mpr c₂), bind_assoc, pure_bind]
      rfl
    · simp only [e₂, e₃, e₄, dif_pos c₀, dif_neg c₁, dif_neg (fun h => c₁ (h₃.mp h)), dif_neg (fun h => c₁ (h₅.mp h)), dif_neg c₂, dif_neg (fun h => c₂ (h₆.mp h)), bind_assoc, pure_bind]
      rfl
  obtain ⟨p₁, p₃, p₅⟩ := cond_first k
  obtain ⟨q₂, q₄, q₆⟩ := cond_next k
  have hk : k.val < 8 := k.isLt
  rw [e, stageRaw_eq i slot0 ⟨3 * k.val, by omega⟩ (k0_off4_eq i) (k0_off5_eq i) (o₃ := k0_off22 i k 0#32) ((k0_off22_eq i k 0).trans (off_chunk i (by simp; omega)))
      ((k0_off23_eq i k).trans (off_chunk i (by simp; omega))) p₁ q₂,
    stageRaw_eq i slot1 ⟨3 * k.val + 1, by omega⟩ (k0_off4_eq i) (k0_off24_eq i) (o₃ := k0_off22 i k 1#32) ((k0_off22_eq i k 1).trans (off_chunk i (by simp; omega)))
      ((k0_off41_eq i k).trans (off_chunk i (by simp; omega))) p₃ q₄,
    stageRaw_eq i slot2 ⟨3 * k.val + 2, by omega⟩ (k0_off4_eq i) (k0_off42_eq i) (o₃ := k0_off22 i k 2#32) ((k0_off22_eq i k 2).trans (off_chunk i (by simp; omega)))
      ((k0_off59_eq i k).trans (off_chunk i (by simp; omega))) p₅ q₆]
  unfold ringTrip
  simp only [bind_assoc]

/-- The printed body is the ring. -/
theorem body_eq (i : grid0.Coords) :
    cc0__body (F := F) i probH (Memref.isWhole_whole _) aliasH (Memref.isWhole_whole _) idxH (Memref.isWhole_whole _) drawH (Memref.isWhole_whole _) outH (Memref.isWhole_whole _) probTab (Memref.isWhole_whole _) aliasTab (Memref.isWhole_whole _)
      slot0.mi slot0.hi slot1.mi slot1.hi slot2.mi slot2.hi slot0.mp slot0.hp slot1.mp slot1.hp slot2.mp slot2.hp slot0.mo slot0.ho slot1.mo slot1.ho slot2.mo slot2.ho
      cc0_scratch11 cc0_scratch12 cc0_scratch13 cc0_scratch14 cc0_scratch15 cc0_scratch16 cc0_scratch17 cc0_scratch18 cc0_scratch19 cc0_scratch20 cc0_scratch21
      = body i := by
  have e₁ : k0_t1_body (F := F) i probH (Memref.isWhole_whole _) aliasH (Memref.isWhole_whole _) idxH (Memref.isWhole_whole _) drawH (Memref.isWhole_whole _) outH (Memref.isWhole_whole _) probTab (Memref.isWhole_whole _) aliasTab (Memref.isWhole_whole _)
      slot0.mi slot0.hi slot1.mi slot1.hi slot2.mi slot2.hi slot0.mp slot0.hp slot1.mp slot1.hp slot2.mp slot2.hp slot0.mo slot0.ho slot1.mo slot1.ho slot2.mo slot2.ho
      cc0_scratch11 cc0_scratch12 cc0_scratch13 cc0_scratch14 cc0_scratch15 cc0_scratch16 cc0_scratch17 cc0_scratch18 cc0_scratch19 cc0_scratch20 cc0_scratch21
      = fun k _ => (do ringTrip i k; pure 0#32) := funext fun k => funext fun x => t1_eq i k x
  have e₅ : k0_t5_body (F := F) i probH (Memref.isWhole_whole _) aliasH (Memref.isWhole_whole _) idxH (Memref.isWhole_whole _) drawH (Memref.isWhole_whole _) outH (Memref.isWhole_whole _) probTab (Memref.isWhole_whole _) aliasTab (Memref.isWhole_whole _)
      slot0.mi slot0.hi slot1.mi slot1.hi slot2.mi slot2.hi slot0.mp slot0.hp slot1.mp slot1.hp slot2.mp slot2.hp slot0.mo slot0.ho slot1.mo slot1.ho slot2.mo slot2.ho
      cc0_scratch11 cc0_scratch12 cc0_scratch13 cc0_scratch14 cc0_scratch15 cc0_scratch16 cc0_scratch17 cc0_scratch18 cc0_scratch19 cc0_scratch20 cc0_scratch21
      = fun t _ => tripAt i slot0.mi slot0.mp slot0.mo ⟨t.val, lanes_lt t⟩ := funext fun t => funext fun u => t5_eq (F := F) ..
  rw [cc0__body_eq_skeleton]
  unfold cc0__body_skel
  rw [k0_part10_eq_skeleton]
  unfold k0_part10_skel
  refine (show _ = (do
      Prog.lift (.enqueueDma probH (.here probTab) (.dma cc0_scratch20.sem) (Memref.isWhole_whole _).wordExact (Memref.isWhole_whole _).wordExact ⟨Or.inl rfl, trivial⟩)
      Prog.lift (.enqueueDma aliasH (.here aliasTab) (.dma cc0_scratch21.sem) (Memref.isWhole_whole _).wordExact (Memref.isWhole_whole _).wordExact ⟨Or.inl rfl, trivial⟩)
      issueInO i slot0 (k0_off1 i) (k0_off1_inb i)
      issueInO i slot1 (k0_off2 i) (k0_off2_inb i)
      issueInO i slot2 (k0_off3 i) (k0_off3_inb i)
      Prog.lift (.waitDma2 cc0_scratch20.sem probH probTab (Memref.isWhole_whole _).wordExact (Memref.isWhole_whole _).wordExact)
      Prog.lift (.waitDma2 cc0_scratch21.sem aliasH aliasTab (Memref.isWhole_whole _).wordExact (Memref.isWhole_whole _).wordExact)
      let _x : BitVec 32 ← Scf.Loop.for k0_t1_loop k0_t1_ok 0#32 (fun k _ => do ringTrip i k; pure 0#32)
      waitInO i slot0 (k0_off1 i) (k0_off1_inb i)
      waitOutO i slot0 (k0_off1 i) (k0_off1_inb i)
      compute i slot0
      issueOutO i slot0 (k0_off76 i) (k0_off76_inb i)
      waitOutO i slot1 (k0_off1 i) (k0_off1_inb i)
      waitOutO i slot2 (k0_off1 i) (k0_off1_inb i)
      waitOutO i slot0 (k0_off1 i) (k0_off1_inb i) : TileProg F i PUnit) from ?_).trans ?_
  · unfold issueInO waitInO waitOutO issueOutO
    simp only [e₁, e₅, bind_assoc, pure_bind]
    rfl
  · rw [issueInO_eq i slot0 (j := 0) (k0_off1_eq i), issueInO_eq i slot1 (j := 1) (k0_off2_eq i), issueInO_eq i slot2 (j := 2) (k0_off3_eq i),
      waitInO_eq i slot0 (k0_off1_eq i), waitOutO_eq i slot0 (k0_off1_eq i), waitOutO_eq i slot1 (k0_off1_eq i), waitOutO_eq i slot2 (k0_off1_eq i),
      issueOutO_eq i slot0 (j := 24) (k0_off76_eq i)]
    rfl

end Cert.Proof.Alias
-- ==== Proof.Steps.lean ====
/-
  What one operation of a vector subcore does to the memrefs it owns, each owned at the values read through it: a load
  yields the values in its rectangle, a store lays its values over the rectangle, an indexed load gathers, a copy in
  flight delivers the destination at the source's values beside the source. Below the rules, the launch as the launch
  theorem sees it: the configuration, its ghost state and a subcore's thread.
-/
module

public import proofs.«01_k».proof.Proof.Body
public import Idealize.ShloMosaic.Lib.StableHlo.Run
public import Idealize.ShloMosaic.Lib.Pipeline.Kit
public import Idealize.ShloMosaic.Lib.Tactic

@[expose] public section

noncomputable section

namespace Cert.Proof.Alias

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type}

/-! ## The launch as its theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the handshakes' rounds beside the copies' counters. -/
abbrev UH : Type := URounds (GSem nD τ sig) ℕ
abbrev UU : Type := UH × Counters

local notation "𝕄" => MT nD τ sig (HIx 1) (Elt F) ℕ UU ℕ

/-- The handshakes' rounds are the left factor; the counters are found by instance. -/
abbrev EH : Emb UH (MT nD τ sig (HIx 1) (Elt F) ℕ UU ℕ) := embL
/-- The copies' counters. -/
abbrev EC : UEmb Counters (MT nD τ sig (HIx 1) (Elt F) ℕ UU ℕ) := countersEmb

variable [FloatOps F]

/-- The thread of the subcore at grid point `i` of device `d`. -/
abbrev thr (d : Dev nD) (i : grid0.Coords) : Thread nD τ := V d ((i 0).castLE hcore0) ((i 1).castLE hsub0)

/-- What the subcore's program `p` establishes: `Q` of its result. -/
abbrev runs (d : Dev nD) (i : grid0.Coords) {α : Type} (p : TileProg F i α) (Q : α → sProp 𝕄) : sProp 𝕄 :=
  wp frame (wpE (defs₀ (F := F)) 𝒱₀ (thr d i) none) Set.univ p Q

section Rules

variable (d : Dev nD) (i : grid0.Coords) {α : Type} {s : Shape} {e : EltTy}

/-- A program that is done has established what holds of its result. -/
theorem runs_ret {Q : α → sProp 𝕄} (a : α) : Q a ⊢ runs d i (.ret a) Q := by
  unfold runs; rw [wp_ret]; iintro H; imodintro; iexact H

/-- A program continues what another has established. -/
theorem runs_bind {β : Type} {p : TileProg F i β} {k : β → TileProg F i α} {H : sProp 𝕄} {J : β → sProp 𝕄} {Q : α → sProp 𝕄}
    (h₁ : H ⊢ runs d i p J) (h₂ : ∀ b, J b ⊢ runs d i (k b) Q) : H ⊢ runs d i (p >>= k) Q := by
  unfold runs; rw [wp_bind]; exact h₁.trans (wp_mono frame _ _ h₂)

/-- The same with what else is held at hand: the rest of the program runs from it and what the first part establishes. -/
theorem runs_then {β : Type} {p : TileProg F i β} {k : β → TileProg F i α} {H : sProp 𝕄} {J : β → sProp 𝕄} {Q : α → sProp 𝕄}
    (h : H ⊢ runs d i p J) : H ⊢ iprop((∀ b, J b -∗ runs d i (k b) Q) -∗ runs d i (p >>= k) Q) := by
  unfold runs; rw [wp_bind]; exact h.trans (wp_wand frame _ _)

/-- A load yields the memref's values in the rectangle. -/
theorem runs_load {Q : α → sProp 𝕄} {m : Memref sig .scVector .vmem s e} {r : Rect s} {hl : m.view.LoadsAt r.toLoadRect}
    {k : (r.shape.Idx → Elt F e) → TileProg F i α} {q : PosShare TreeShare} (X : s.Idx → Elt F e) :
    (owns (thr d i) m q X : sProp 𝕄)
      ⊢ iprop((owns (thr d i) m q X -∗ runs d i (k fun j => X (r.emb j)) Q)
          -∗ runs d i (.op (.load m r.toLoadRect hl) k) Q) := by
  unfold owns
  iintro ⟨%f, %hf, H⟩ Hk
  subst hf
  iapply (wp_load_rect 𝒱₀ (thr d i) none Set.univ (m := m) (r := r) (S := m.view.set) (q := q) (f := f) (View.set_slice_subset _ _)) $$ H
  iintro H
  iapply Hk
  iexists f; isplitr
  · ipureintro; rfl
  · iexact H

/-- An indexed load gathers the memref's values. -/
theorem runs_gather {Q : α → sProp 𝕄} {m : Memref sig .scVector .vmem s e} {t : Shape} {idxs : Fin s.rank → IVec t 32}
    {h : ∀ a x, (idxs a x).toNat < s.size a} {hl : m.view.Loads} {k : Vec F t e → TileProg F i α}
    {q : PosShare TreeShare} (X : s.Idx → Elt F e) :
    (owns (thr d i) m q X : sProp 𝕄)
      ⊢ iprop((owns (thr d i) m q X -∗ runs d i (k (loadIdx (F := F) (e := e) X idxs h)) Q)
          -∗ runs d i (SparseCore.vectorLoadIdx m idxs h hl >>= k) Q) := by
  unfold owns
  iintro ⟨%f, %hf, H⟩ Hk
  subst hf
  iapply (SparseCore.wp_vectorLoadIdx 𝒱₀ (thr d i) none Set.univ (base := m) (S := m.view.set) (q := q) (f := f) (View.set_slice_subset _ _)) $$ H
  iintro H
  have hX : (m.access (.whole s)).read (Elt F) f = m.view.read (Elt F) f := by
    funext j
    show m.view.read (Elt F) f ((Rect.whole s).emb j) = _
    rw [Rect.emb_whole_apply]
  rw [hX]
  iapply Hk
  iexists f; isplitr
  · ipureintro; rfl
  · iexact H

/-- A store lays its values over the memref's in the rectangle. -/
theorem runs_store {Q : α → sProp 𝕄} {m : Memref sig .scVector .vmem s e} {r : Rect s} {w : r.shape.Idx → Elt F e}
    {hx : (m.access r).Stores Finset.univ} {hm} {k : PUnit → TileProg F i α} (X : s.Idx → Elt F e) :
    (owns (thr d i) m fullShare X : sProp 𝕄)
      ⊢ iprop((owns (thr d i) m fullShare (r.overlay X w) -∗ runs d i (k ⟨⟩) Q)
          -∗ runs d i (.op (.store m r w Finset.univ hx hm) k) Q) := by
  unfold owns
  iintro ⟨%f, %hf, H⟩ Hk
  subst hf
  iapply (wp_store 𝒱₀ (thr d i) none Set.univ (m := m) (r := r) (w := w) (Mk := Finset.univ) (S := m.view.set) (f := f)
    (by rw [View.setOn_univ]; exact View.set_slice_subset _ _)) $$ H
  iintro H
  iapply Hk
  iexists _; isplitr
  rotate_left
  · iexact H
  · ipureintro
    funext j
    by_cases hj : j ∈ r.set
    · obtain ⟨x, rfl⟩ := r.exists_idx_of_mem hj
      change m.view.read (Elt F) _ (r.emb x) = r.overlay _ w (r.emb x)
      rw [Rect.overlay_emb]
      exact congrFun (View.read_write_univ (v := m.access r) f w) x
    · rw [Rect.overlay_of_not_mem _ _ _ hj, View.read_apply, View.read_apply, View.write_of_not_mem]
      rw [View.setOn_univ, View.set_slice, Finset.mem_map' m.view.emb]; exact hj

variable {sp sp' : Space}

/-- A copy started from `src` to `dst`: in flight it carries `dst` at `src`'s values, beside `src`. -/
theorem runs_issue {Q : α → sProp 𝕄} {src : Memref sig .scVector sp s e} {dst : Memref sig .scVector sp' s e} {sm : DmaSem sig}
    {hsrc : src.view.WordExact} {hdst : dst.view.WordExact} {hsem} {k : PUnit → TileProg F i α} {q : PosShare TreeShare}
    (N : ℕ) (hN : dst.view.dmaCredit = N) (hN0 : 0 < N) (X Y : s.Idx → Elt F e) :
    iprop(owns (thr d i) src q X ∗ owns (thr d i) dst fullShare Y ∗ semVal ((thr d i, .dma sm) : GSem nD τ sig) 0)
      ⊢ (iprop((Flight EC (thr d i) (.dma sm) none N iprop(owns (thr d i) dst fullShare X ∗ owns (thr d i) src q X)
              -∗ runs d i (k ⟨⟩) Q)
          -∗ runs d i (.op (.enqueueDma src (.here dst) (.dma sm) hsrc hdst hsem) k) Q) : sProp 𝕄) := by
  iintro ⟨Hs, Hd, Hv⟩ Hk
  ihave Hs' := (show owns (thr d i) src q X ⊢ iprop(∃ f, ⌜src.view.read (Elt F) f = X⌝ ∗ (src.view.loc (thr d i) ↦[src.view.set]{q} f)) from .rfl) $$ Hs
  ihave Hd' := (show owns (thr d i) dst fullShare Y ⊢ iprop(∃ f, ⌜dst.view.read (Elt F) f = Y⌝ ∗ (dst.view.loc (thr d i) ↦[dst.view.set]{fullShare} f)) from .rfl) $$ Hd
  icases Hs' with ⟨%f, %hf, Hs⟩
  icases Hd' with ⟨%g, -, Hd⟩
  subst hf
  iapply (Transfers.wp_dmaLocal EC 𝒱₀ (thr d i) none (src := src) (dst := dst) (sm := .dma sm) (none : HIx 1) N hN hN0 (Finset.Subset.refl _)) $$ [Hs Hd Hv]
  · isplitl [Hs]; · iexact Hs
    isplitl [Hd]; · iexact Hd
    iexact Hv
  iintro Hf
  iapply Hk
  iapply (Transfers.Flight_mono EC (thr d i) (show _ ⊢ _ from ?_)) $$ Hf
  unfold owns
  iintro ⟨Hd, Hs⟩
  isplitl [Hd]
  · iexists _; isplitr
    rotate_left
    · iexact Hd
    · ipureintro; exact View.read_write_univ g _
  · iexists f; isplitr
    · ipureintro; rfl
    · iexact Hs

/-- A wait for a copy in flight: what it carries, its semaphore at zero again. -/
theorem runs_wait {Q : α → sProp 𝕄} {sm : DmaSem sig} {s' : Shape} {e' : EltTy} {srcw : Memref sig .scVector sp s' e'} {dstw : Memref sig .scVector sp' s e}
    {hsrc : srcw.view.WordExact} {hdst : dstw.view.WordExact} {k : PUnit → TileProg F i α} (N : ℕ) (hN : dstw.view.dmaCredit = N)
    {R : sProp 𝕄} {O : CellTallies nD τ sig (HIx 1)} {W : Waits sig (HIx 1)} :
    iprop(Flight EC (thr d i) (.dma sm) none N R ∗ owes (thr d i) O W ∗ MayWaits (thr d i) none O)
      ⊢ iprop((iprop(R ∗ semVal ((thr d i, .dma sm) : GSem nD τ sig) 0 ∗ owes (thr d i) O (insert (SemLoc.dma sm, none) W)) -∗ runs d i (k ⟨⟩) Q)
          -∗ runs d i (.op (.waitDma2 sm srcw dstw hsrc hdst) k) Q) := by
  iintro ⟨Hf, HO, Hm⟩ Hk
  iapply (Transfers.wp_waitLocalO EC 𝒱₀ (thr d i) none (none : HIx 1) hN) $$ [Hf HO Hm] Hk
  isplitl [Hf]; · iexact Hf
  isplitl [HO]; · iexact HO
  iapply (Transfers.MayWaits.elim _); iexact Hm

end Rules

end Cert.Proof.Alias
-- ==== Proof.Compute.lean ====
/-
  A slot's chunk computed. Each element of the results is the chosen one of its index and draw (`pick`); a row step
  fills sixteen elements, a trip eight rows of them, the loop the whole chunk.
-/
module

public import proofs.«01_k».proof.Proof.Steps
public import Idealize.ShloMosaic.Lib.Scf

@[expose] public section

noncomputable section

namespace Cert.Proof.Alias

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The place of a table an index names. -/
def lane (x : BitVec 32) : S1024.Idx := fun a => ⟨x.toNat % 1024, by
  obtain rfl : a = 0 := Subsingleton.elim _ _
  exact Nat.mod_lt _ (by decide)⟩

/-- The index where the draw is under its threshold, else the index's replacement. -/
def pick (P : Vec F S1024 .f32) (A : Vec F S1024 .i32) (x : Elt F .i32) (y : Elt F .f32) : Elt F .i32 :=
  Scalar.select (FloatOps.cmpf .olt y (P (lane x))) x (A (lane x))

/-- A chunk's results. -/
def chosen (P : Vec F S1024 .f32) (A : Vec F S1024 .i32) (X : Vec F S8x512 .i32) (Y : Vec F S8x512 .f32) : Vec F S8x512 .i32 :=
  fun j => pick P A (X j) (Y j)

/-- An indexed load by words below 1024 reads the tables at the places the words name. -/
theorem loadIdx_lane {e : EltTy} (f : Vec F S1024 e) (v : IVec S16 32) (h : ∀ a x, ((![v] : Fin 1 → IVec S16 32) a x).toNat < S1024.size a) (z : S16.Idx) :
    loadIdx (F := F) (e := e) f ![v] h z = f (lane (v z)) := by
  have hz : (v z).toNat < 1024 := h 0 z
  unfold loadIdx
  congr 1
  funext a
  apply Fin.ext
  obtain rfl : a = 0 := Subsingleton.elim _ _
  show (v z).toNat = (v z).toNat % 1024
  exact (Nat.mod_eq_of_lt hz).symm

/-- What a row step stores, element by element. -/
theorem row_value (P : Vec F S1024 .f32) (A : Vec F S1024 .i32) (x : Vec F S1x16 .i32) (y : Vec F S1x16 .f32)
    (h₁ : ∀ a z, ((![shapeCast S16 x shapeCasts_S1x16_S16] : Fin 1 → IVec S16 32) a z).toNat < S1024.size a)
    (h₂ : ∀ a z, ((![shapeCast S16 x shapeCasts_S1x16_S16] : Fin 1 → IVec S16 32) a z).toNat < S1024.size a) (z : S1x16.Idx) :
    shapeCast S1x16 (rowOut (F := F) (shapeCast S16 x shapeCasts_S1x16_S16) y (loadIdx (F := F) (e := .f32) P ![shapeCast S16 x shapeCasts_S1x16_S16] h₁)
        (loadIdx (F := F) (e := .i32) A ![shapeCast S16 x shapeCasts_S1x16_S16] h₂)) shapeCasts_S16_S1x16 z
      = pick P A (x z) (y z) := by
  have hz : Shape.reshapeEquiv shapeCasts_S1x16_S16 (Shape.reshapeEquiv shapeCasts_S16_S1x16 z) = z := by
    rw [Shape.reshapeEquiv_reshapeEquiv, Shape.reshapeEquiv_self]
  have hx : shapeCast S16 x shapeCasts_S1x16_S16 (Shape.reshapeEquiv shapeCasts_S16_S1x16 z) = x z := congrArg x hz
  have hy : shapeCast S16 y shapeCasts_S1x16_S16 (Shape.reshapeEquiv shapeCasts_S16_S1x16 z) = y z := congrArg y hz
  show Scalar.select (FloatOps.cmpf .olt (shapeCast S16 y shapeCasts_S1x16_S16 (Shape.reshapeEquiv shapeCasts_S16_S1x16 z))
      (loadIdx (F := F) (e := .f32) P ![shapeCast S16 x shapeCasts_S1x16_S16] h₁ (Shape.reshapeEquiv shapeCasts_S16_S1x16 z)))
    (shapeCast S16 x shapeCasts_S1x16_S16 (Shape.reshapeEquiv shapeCasts_S16_S1x16 z))
    (loadIdx (F := F) (e := .i32) A ![shapeCast S16 x shapeCasts_S1x16_S16] h₂ (Shape.reshapeEquiv shapeCasts_S16_S1x16 z)) = _
  rw [loadIdx_lane, loadIdx_lane, hx, hy]
  rfl

/-- The rows of lanes in the order they are filled: lanes `16 t` to `16 t + 15` of row `r` come `8 t + r`-th. -/
def rank (j : S8x512.Idx) : ℕ := 8 * ((j 1).val / 16) + (j 0).val

/-- The results `O` are the chosen ones in the first `n` rows of lanes. -/
def Filled (P : Vec F S1024 .f32) (A : Vec F S1024 .i32) (X : Vec F S8x512 .i32) (Y : Vec F S8x512 .f32) (n : ℕ) (O : Vec F S8x512 .i32) : Prop :=
  ∀ j, rank j < n → O j = chosen P A X Y j

/-- The rectangle of a row of lanes. -/
abbrev rowRect (t : Fin 32) (r : Fin 8) : Rect S8x512 := Rect.unit (s := S8x512) ![r.val, 16 * t.val] S1x16.size (row_inb r t)

/-- A place among the first `8 t + r + 1` segments and not in the last of them is among the first `8 t + r`. -/
theorem mem_rowRect (t : Fin 32) (r : Fin 8) (j : S8x512.Idx) (h : rank j < 8 * t.val + r.val + 1) (hj : j ∉ (rowRect t r).set) : rank j < 8 * t.val + r.val := by
  refine lt_of_le_of_ne (Nat.le_of_lt_succ h) fun e => hj ?_
  have h0 : (j 0).val < 8 := (j 0).isLt
  have := r.isLt
  unfold rank at e
  rw [Rect.mem_set_unit]
  intro a
  fin_cases a <;> simp [S1x16] <;> omega

/-- Filling the next row of lanes. -/
theorem Filled.step {P : Vec F S1024 .f32} {A : Vec F S1024 .i32} {X : Vec F S8x512 .i32} {Y : Vec F S8x512 .f32} {t : Fin 32} {r : Fin 8}
    {O : Vec F S8x512 .i32} (h : Filled P A X Y (8 * t.val + r.val) O) (w : Vec F S1x16 .i32)
    (hw : ∀ z, w z = chosen P A X Y ((rowRect t r).emb z)) :
    Filled P A X Y (8 * t.val + r.val + 1) ((rowRect t r).overlay O w) := by
  intro j hj
  by_cases hm : j ∈ (rowRect t r).set
  · obtain ⟨z, rfl⟩ := (rowRect t r).exists_idx_of_mem hm
    exact (Rect.overlay_emb (rowRect t r) O w z).trans (hw z)
  · exact (Rect.overlay_of_not_mem (rowRect t r) O w hm).trans (h j (mem_rowRect t r j hj hm))

section Chunk

variable (d : Dev nD) (i : grid0.Coords) (B : Slot) (P : Vec F S1024 .f32) (A : Vec F S1024 .i32) (X : Vec F S8x512 .i32) (Y : Vec F S8x512 .f32)

/-- The slot while its chunk is computed: indices, draws and tables as they are, the first `n` rows of lanes filled. -/
def holds (n : ℕ) : sProp (MT nD τ sig (HIx 1) (Elt F) ℕ UU ℕ) :=
  iprop(owns (thr d i) B.mi fullShare X ∗ owns (thr d i) B.mp fullShare Y ∗ owns (thr d i) probTab fullShare P ∗ owns (thr d i) aliasTab fullShare A
    ∗ ∃ O, ⌜Filled P A X Y n O⌝ ∗ owns (thr d i) B.mo fullShare O)

variable (hX : ∀ j, (X j : BitVec 32).toNat < 1024)
include hX

/-- A row step fills its row of lanes. -/
theorem row_runs (t : Fin 32) (r : Fin 8) :
    holds d i B P A X Y (8 * t.val + r.val) ⊢ runs d i (rowAt i B.mi B.mp B.mo t r) fun _ => holds d i B P A X Y (8 * t.val + r.val + 1) := by
  unfold rowAt rowProg holds
  simp only [Prog.lift, Prog.bind_op, Prog.bind_ret]
  iintro ⟨Hi, Hp, HP, HA, %O, %hO, Ho⟩
  iapply (runs_load d i (m := B.mi) (r := rowRect t r) X) $$ Hi; iintro Hi
  have hc : k0_chk1 (shapeCast S16 (fun z => X ((rowRect t r).emb z)) shapeCasts_S1x16_S16) := by
    have h : ∀ (a : Fin 1) (z : S16.Idx), ((![shapeCast S16 (fun z => X ((rowRect t r).emb z)) shapeCasts_S1x16_S16] : Fin 1 → IVec S16 32) a z).toNat < S1024.size a := by
      intro a z
      obtain rfl : a = 0 := Subsingleton.elim _ _
      exact hX _
    exact ⟨h, h⟩
  iapply (wp_assume 𝒱₀ (thr d i) none Set.univ hc)
  iapply (runs_load d i (m := B.mp) (r := rowRect t r) Y) $$ Hp; iintro Hp
  iapply (runs_gather d i (m := probTab) P) $$ HP; iintro HP
  iapply (runs_gather d i (m := aliasTab) A) $$ HA; iintro HA
  iapply (runs_load d i (m := B.mo) (r := rowRect t r) O) $$ Ho; iintro Ho
  iapply (runs_store d i (m := B.mo) (r := rowRect t r) O) $$ Ho; iintro Ho
  iapply (runs_ret d i)
  isplitl [Hi]; · iexact Hi
  isplitl [Hp]; · iexact Hp
  isplitl [HP]; · iexact HP
  isplitl [HA]; · iexact HA
  iexists _; isplitr
  rotate_left
  · iexact Ho
  · ipureintro
    exact hO.step _ fun z => row_value P A _ _ hc.1 hc.2 z

omit [FloatOps F] hX in
/-- Eight steps in a row. -/
theorem rows8_runs [FloatOps F] (R : Fin 8 → TileProg F i PUnit) (I : ℕ → sProp 𝕄) (h : ∀ r : Fin 8, I r.val ⊢ runs d i (R r) fun _ => I (r.val + 1)) :
    I 0 ⊢ runs d i (rows8 R) fun _ => I 8 := by
  unfold rows8
  simp only [runs, wp_bind]
  exact (h 0).trans (wp_mono frame _ _ fun _ => (h 1).trans (wp_mono frame _ _ fun _ => (h 2).trans (wp_mono frame _ _ fun _ => (h 3).trans
    (wp_mono frame _ _ fun _ => (h 4).trans (wp_mono frame _ _ fun _ => (h 5).trans (wp_mono frame _ _ fun _ => (h 6).trans (wp_mono frame _ _ fun _ => h 7)))))))

/-- A trip fills eight rows of lanes. -/
theorem trip_runs (t : Fin 32) :
    holds d i B P A X Y (8 * t.val) ⊢ runs d i (tripAt i B.mi B.mp B.mo t) fun _ => holds d i B P A X Y (8 * (t.val + 1)) :=
  rows8_runs d i _ (fun r => holds d i B P A X Y (8 * t.val + r)) fun r => row_runs d i B P A X Y hX t r

/-- The slot's chunk computed: its results are the chosen ones. -/
theorem compute_runs (O : Vec F S8x512 .i32) :
    iprop(owns (thr d i) B.mi fullShare X ∗ owns (thr d i) B.mp fullShare Y ∗ owns (thr d i) probTab fullShare P ∗ owns (thr d i) aliasTab fullShare A ∗ owns (thr d i) B.mo fullShare O)
      ⊢ (runs d i (compute i B) fun _ => iprop(owns (thr d i) B.mi fullShare X ∗ owns (thr d i) B.mp fullShare Y ∗ owns (thr d i) probTab fullShare P ∗ owns (thr d i) aliasTab fullShare A
          ∗ owns (thr d i) B.mo fullShare (chosen P A X Y)) : sProp 𝕄) := by
  unfold compute
  refine BIBase.Entails.trans ?_ (Scf.wp_for frame (wpE (defs₀ (F := F)) 𝒱₀ (thr d i) none) Set.univ _ _ _ k0_t2_ok _ _ (fun n _ => holds d i B P A X Y (8 * n)) fun t _ => trip_runs d i B P A X Y hX ⟨t.val, lanes_lt t⟩)
  iintro ⟨Hi, Hp, HP, HA, Ho⟩
  isplitl [Hi Hp HP HA Ho]
  · unfold holds
    isplitl [Hi]; · iexact Hi
    isplitl [Hp]; · iexact Hp
    isplitl [HP]; · iexact HP
    isplitl [HA]; · iexact HA
    iexists O; isplitr
    · ipureintro; exact fun j hj => absurd hj (Nat.not_lt_zero _)
    · iexact Ho
  · iintro %_u H
    unfold holds
    icases H with ⟨Hi, Hp, HP, HA, %O', %hO, Ho⟩
    have e : O' = chosen P A X Y := by
      funext j
      refine hO j ?_
      have h0 : (j 0).val < 8 := (j 0).isLt
      have h1 : (j 1).val < 512 := (j 1).isLt
      show rank j < 8 * 32
      unfold rank; omega
    subst e
    isplitl [Hi]; · iexact Hi
    isplitl [Hp]; · iexact Hp
    isplitl [HP]; · iexact HP
    isplitl [HA]; · iexact HA
    iexact Ho

end Chunk

end Cert.Proof.Alias
-- ==== Proof.Ring.lean ====
/-
  The ring. Chunk by chunk a subcore brings indices and draws in, and sends the chosen ones out. Each chunk of the
  three arrays belongs to one subcore, which hands it to a copy and gets it back when it waits. Between two stages a
  slot has its next chunk of indices and draws on the way in and its last results on the way out; the chunks not yet
  asked for and those already back are held as they are.
-/
module

public import proofs.«01_k».proof.Proof.Compute

@[expose] public section

noncomputable section

namespace Cert.Proof.Alias

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]

local notation "𝕄" => MT nD τ sig (HIx 1) (Elt F) ℕ UU ℕ

/-! ## Chunks before and after a stage -/

section Chunks

/-- The chunks from `n` on, and those before `n`, each with its `Φ`. -/
def later (n : ℕ) (Φ : Fin 25 → sProp 𝕄) : sProp 𝕄 := bigSep (Finset.univ.filter fun j : Fin 25 => n ≤ j.val) Φ
def earlier (n : ℕ) (Φ : Fin 25 → sProp 𝕄) : sProp 𝕄 := bigSep (Finset.univ.filter fun j : Fin 25 => j.val < n) Φ

/-- What is left from `j` on is `j`'s and what is left after it. -/
theorem later_take (j : Fin 25) (Φ : Fin 25 → sProp 𝕄) : later j.val Φ = iprop(Φ j ∗ later (j.val + 1) Φ) := by
  unfold later
  rw [SparseCore.bigSep_erase' (i := j) (by simp)]
  congr 2
  ext k; simp [Fin.ext_iff]; omega

/-- What is done up to and with `j` is `j`'s and what was done before it. -/
theorem earlier_put (j : Fin 25) (Φ : Fin 25 → sProp 𝕄) : earlier (j.val + 1) Φ = iprop(Φ j ∗ earlier j.val Φ) := by
  unfold earlier
  rw [SparseCore.bigSep_erase' (i := j) (by simp)]
  congr 2
  ext k; simp [Fin.ext_iff]; omega

/-- From the first chunk on, everything is left. -/
theorem later_zero (Φ : Fin 25 → sProp 𝕄) : later 0 Φ = bigSep Finset.univ Φ := by
  unfold later; rw [Finset.filter_true_of_mem fun j _ => Nat.zero_le _]

/-- Past the last chunk nothing is left. -/
theorem later_none {n : ℕ} (h : 25 ≤ n) (Φ : Fin 25 → sProp 𝕄) : later n Φ = iprop(emp) := by
  unfold later; rw [Finset.filter_false_of_mem fun j _ => by omega]; exact bigSep_empty

/-- Before the first chunk nothing is done. -/
theorem earlier_zero (Φ : Fin 25 → sProp 𝕄) : earlier 0 Φ = iprop(emp) := by
  unfold earlier; rw [Finset.filter_false_of_mem fun j _ => Nat.not_lt_zero _]; exact bigSep_empty

/-- After the last chunk everything is done. -/
theorem earlier_all (Φ : Fin 25 → sProp 𝕄) : earlier 25 Φ = bigSep Finset.univ Φ := by
  unfold earlier; rw [Finset.filter_true_of_mem fun j _ => j.isLt]

end Chunks

section Ring

variable (d : Dev nD) (i : grid0.Coords) (P : Vec F S1024 .f32) (A : Vec F S1024 .i32) (X : Vec F S200x16384 .i32) (Y : Vec F S200x16384 .f32)

/-- Chunk `j`'s part of an array. -/
def part {e : EltTy} (G : Vec F S200x16384 e) (j : Fin 25) : Vec F S8x512 e := fun z => G ((chunkRect i j).emb z)

/-- The results. -/
def result : Vec F S200x16384 .i32 := fun z => pick P A (X z) (Y z)

/-- Chunk `j` of the indices and of the draws; of the result array at `G`. -/
def inChunk (j : Fin 25) : sProp 𝕄 :=
  iprop(owns (thr d i) (chunkOf idxH i j) fullShare (part i X j) ∗ owns (thr d i) (chunkOf drawH i j) fullShare (part i Y j))
def outChunk (G : Vec F S200x16384 .i32) (j : Fin 25) : sProp 𝕄 := owns (thr d i) (chunkOf outH i j) fullShare (part i G j)

/-- The subcore's tables. -/
def tabs : sProp 𝕄 := iprop(owns (thr d i) probTab fullShare P ∗ owns (thr d i) aliasTab fullShare A)

/-- What a copy of a chunk of results signals. -/
abbrev outCredit : ℕ := sig.dmaCredit .scVector (Kind.scVector.table .hbm) (main_v4_scv : Ref sig .scVector).idx S8x512 .i32

/-- A slot's input side at rest. -/
def idleIn (B : Slot) : sProp 𝕄 :=
  iprop((∃ x, owns (thr d i) B.mi fullShare x) ∗ (∃ y, owns (thr d i) B.mp fullShare y) ∗ semVal ((thr d i, .dma B.si) : GSem nD τ sig) 0 ∗ semVal ((thr d i, .dma B.sp) : GSem nD τ sig) 0)
/-- Its output side at rest. -/
def idleOut (B : Slot) : sProp 𝕄 := iprop((∃ o, owns (thr d i) B.mo fullShare o) ∗ semVal ((thr d i, .dma B.so) : GSem nD τ sig) 0)

/-- A slot's input side before stage `n`: chunk `n` on its way, if there is one. -/
def slotIn (B : Slot) (n : ℕ) : sProp 𝕄 :=
  if h : n < 25 then iprop(
    Flight EC (thr d i) (.dma B.si) none B.mi.view.dmaCredit iprop(owns (thr d i) B.mi fullShare (part i X ⟨n, h⟩) ∗ owns (thr d i) (chunkOf idxH i ⟨n, h⟩) fullShare (part i X ⟨n, h⟩))
    ∗ Flight EC (thr d i) (.dma B.sp) none B.mp.view.dmaCredit iprop(owns (thr d i) B.mp fullShare (part i Y ⟨n, h⟩) ∗ owns (thr d i) (chunkOf drawH i ⟨n, h⟩) fullShare (part i Y ⟨n, h⟩)))
  else idleIn d i B

/-- Its output side before stage `n`: the results of stage `n - 3` on their way, if there was one. -/
def slotOut (B : Slot) (n : ℕ) : sProp 𝕄 :=
  if h : 3 ≤ n ∧ n - 3 < 25 then
    Flight EC (thr d i) (.dma B.so) none outCredit iprop(outChunk d i (result P A X Y) ⟨n - 3, h.2⟩ ∗ ∃ o, owns (thr d i) B.mo fullShare o)
  else idleOut d i B

/-- What the subcore owes, its waits recorded. -/
def debts (O : CellTallies nD τ sig (HIx 1)) (W : Waits sig (HIx 1)) : sProp 𝕄 :=
  iprop(∃ W', ⌜∀ p ∈ W', p ∈ W ∨ p.2 = none⌝ ∗ owes (thr d i) O W')

variable {O : CellTallies nD τ sig (HIx 1)} {W : Waits sig (HIx 1)}

/-- A wait keeps the record. -/
theorem debts_insert {sm : SemLoc sig} {W' : Waits sig (HIx 1)} (h : ∀ p ∈ W', p ∈ W ∨ p.2 = none) :
    owes (thr d i) O (insert (sm, none) W') ⊢ (debts d i O W : sProp 𝕄) := by
  unfold debts
  iintro H
  iexists _; isplitr
  rotate_left
  · iexact H
  · ipureintro
    intro p hp
    rcases Finset.mem_insert.mp hp with rfl | hp
    · exact .inr rfl
    · exact h p hp

/-- A wait for a copy in flight, with the record. -/
theorem runs_wait' {α : Type} {Q : α → sProp 𝕄} {sp sp' : Space} {s s' : Shape} {e e' : EltTy} {sm : DmaSem sig} {srcw : Memref sig .scVector sp s' e'} {dstw : Memref sig .scVector sp' s e}
    {hsrc : srcw.view.WordExact} {hdst : dstw.view.WordExact} {k : PUnit → TileProg F i α} {N : ℕ} (hN : dstw.view.dmaCredit = N) {R : sProp 𝕄} :
    iprop(Flight EC (thr d i) (.dma sm) none N R ∗ MayWaits (thr d i) none O ∗ debts d i O W)
      ⊢ iprop((iprop(R ∗ semVal ((thr d i, .dma sm) : GSem nD τ sig) 0 ∗ debts d i O W) -∗ runs d i (k ⟨⟩) Q)
          -∗ runs d i (.op (.waitDma2 sm srcw dstw hsrc hdst) k) Q) := by
  iintro ⟨Hf, #Hm, Hd⟩ Hk
  ihave Hd' := (show debts d i O W ⊢ iprop(∃ W', ⌜∀ p ∈ W', p ∈ W ∨ p.2 = none⌝ ∗ owes (thr d i) O W') from .rfl) $$ Hd
  icases Hd' with ⟨%W', %hW, HO⟩
  iapply (runs_wait d i N hN) $$ [Hf HO]
  · isplitl [Hf]; · iexact Hf
    isplitl [HO]; · iexact HO
    iexact Hm
  iintro ⟨HR, Hv, HO⟩
  iapply Hk
  isplitl [HR]; · iexact HR
  isplitl [Hv]; · iexact Hv
  iapply (debts_insert d i hW); iexact HO

/-! ## The four transfers of a stage -/

/-- Asking for chunk `j`. -/
theorem issueIn_runs (B : Slot) (j : Fin 25) :
    iprop(idleIn d i B ∗ inChunk d i X Y j) ⊢ (runs d i (issueIn i B j) fun _ => slotIn d i X Y B j.val : sProp 𝕄) := by
  unfold issueIn idleIn inChunk slotIn
  rw [dif_pos j.isLt]
  simp only [Prog.lift, Prog.bind_op, Prog.bind_ret]
  iintro ⟨⟨⟨%x, Hi⟩, ⟨%y, Hp⟩, Hsi, Hsp⟩, HX, HY⟩
  iapply (runs_issue d i B.mi.view.dmaCredit rfl (View.dmaCredit_pos _ (by decide)) (part i X j) x) $$ [Hi Hsi HX]
  · isplitl [HX]; · iexact HX
    isplitl [Hi]; · iexact Hi
    iexact Hsi
  iintro HfX
  iapply (runs_issue d i B.mp.view.dmaCredit rfl (View.dmaCredit_pos _ (by decide)) (part i Y j) y) $$ [Hp Hsp HY]
  · isplitl [HY]; · iexact HY
    isplitl [Hp]; · iexact Hp
    iexact Hsp
  iintro HfY
  iapply (runs_ret d i)
  isplitl [HfX]; · iexact HfX
  iexact HfY

/-- Waiting for chunk `j`. -/
theorem waitIn_runs (B : Slot) (j : Fin 25) :
    iprop(slotIn d i X Y B j.val ∗ MayWaits (thr d i) none O ∗ debts d i O W)
      ⊢ (runs d i (waitIn i B) fun _ => iprop(owns (thr d i) B.mi fullShare (part i X j) ∗ owns (thr d i) B.mp fullShare (part i Y j)
          ∗ semVal ((thr d i, .dma B.si) : GSem nD τ sig) 0 ∗ semVal ((thr d i, .dma B.sp) : GSem nD τ sig) 0 ∗ inChunk d i X Y j ∗ debts d i O W) : sProp 𝕄) := by
  unfold waitIn slotIn inChunk
  rw [dif_pos j.isLt]
  simp only [Prog.lift, Prog.bind_op, Prog.bind_ret]
  iintro ⟨⟨HfX, HfY⟩, #Hm, Hd⟩
  iapply (runs_wait' d i rfl) $$ [HfX Hd]
  · isplitl [HfX]; · iexact HfX
    isplitr; · iexact Hm
    iexact Hd
  iintro ⟨⟨Hi, HX⟩, Hsi, Hd⟩
  iapply (runs_wait' d i rfl) $$ [HfY Hd]
  · isplitl [HfY]; · iexact HfY
    isplitr; · iexact Hm
    iexact Hd
  iintro ⟨⟨Hp, HY⟩, Hsp, Hd⟩
  iapply (runs_ret d i)
  isplitl [Hi]; · iexact Hi
  isplitl [Hp]; · iexact Hp
  isplitl [Hsi]; · iexact Hsi
  isplitl [Hsp]; · iexact Hsp
  isplitl [HX HY]
  · isplitl [HX]; · iexact HX
    iexact HY
  iexact Hd

/-- Sending chunk `j`'s results. -/
theorem issueOut_runs (B : Slot) (G : Vec F S200x16384 .i32) (j : Fin 25) :
    iprop(owns (thr d i) B.mo fullShare (part i (result P A X Y) j) ∗ semVal ((thr d i, .dma B.so) : GSem nD τ sig) 0 ∗ outChunk d i G j)
      ⊢ (runs d i (issueOut i B j) fun _ => slotOut d i P A X Y B (j.val + 3) : sProp 𝕄) := by
  unfold issueOut outChunk slotOut
  rw [dif_pos ⟨Nat.le_add_left _ _, by rw [Nat.add_sub_cancel]; exact j.isLt⟩]
  simp only [Prog.lift]
  iintro ⟨Ho, Hs, HG⟩
  iapply (runs_issue d i outCredit rfl (sig.dmaCredit_pos _ _ _ _ _ (by decide)) (part i (result P A X Y) j) (part i G j)) $$ [Ho Hs HG]
  · isplitl [Ho]; · iexact Ho
    isplitl [HG]; · iexact HG
    iexact Hs
  iintro Hf
  iapply (runs_ret d i)
  iapply (Transfers.Flight_mono EC (thr d i) (show _ ⊢ _ from ?_)) $$ Hf
  iintro ⟨HG, Ho⟩
  isplitl [HG]
  · unfold outChunk; simp only [Nat.add_sub_cancel]; iexact HG
  · iexists _; iexact Ho

/-- Waiting for results on their way. -/
theorem waitOut_runs (B : Slot) (j : Fin 25) :
    iprop(slotOut d i P A X Y B (j.val + 3) ∗ MayWaits (thr d i) none O ∗ debts d i O W)
      ⊢ (runs d i (waitOut i B) fun _ => iprop(idleOut d i B ∗ outChunk d i (result P A X Y) j ∗ debts d i O W) : sProp 𝕄) := by
  unfold waitOut slotOut idleOut
  rw [dif_pos ⟨Nat.le_add_left _ _, by rw [Nat.add_sub_cancel]; exact j.isLt⟩]
  simp only [Prog.lift, Nat.add_sub_cancel]
  iintro ⟨Hf, #Hm, Hd⟩
  iapply (runs_wait' d i rfl) $$ [Hf Hd]
  · isplitl [Hf]; · iexact Hf
    isplitr; · iexact Hm
    iexact Hd
  iintro ⟨⟨HG, Ho⟩, Hs, Hd⟩
  iapply (runs_ret d i)
  isplitl [Ho Hs]
  · isplitl [Ho]; · iexact Ho
    iexact Hs
  isplitl [HG]; · iexact HG
  iexact Hd

/-! ## A stage -/

/-- Before stage `n`'s results are computed the slot waits for those of stage `n - 3`, if there was one. -/
theorem drain_runs (B : Slot) (n : Fin 24) :
    iprop(slotOut d i P A X Y B n.val ∗ earlier (n.val - 3) (outChunk d i (result P A X Y)) ∗ MayWaits (thr d i) none O ∗ debts d i O W)
      ⊢ (runs d i (drain i B n) fun _ => iprop(idleOut d i B ∗ earlier (n.val + 1 - 3) (outChunk d i (result P A X Y)) ∗ debts d i O W) : sProp 𝕄) := by
  unfold drain
  by_cases h : 3 ≤ n.val
  · rw [if_pos h]
    have e₁ : n.val = (⟨n.val - 3, by omega⟩ : Fin 25).val + 3 := by simp; omega
    have e₂ : n.val + 1 - 3 = (⟨n.val - 3, by omega⟩ : Fin 25).val + 1 := by simp; omega
    rw [e₂, earlier_put]
    iintro ⟨Hs, He, Hm, Hd⟩
    iapply (wp_wand frame _ _) $$ [Hs Hm Hd]
    · iapply (waitOut_runs d i P A X Y B ⟨n.val - 3, by omega⟩)
      rw [← e₁]
      isplitl [Hs]; · iexact Hs
      isplitl [Hm]; · iexact Hm
      iexact Hd
    iintro %_u ⟨Hi, Hc, Hd⟩
    isplitl [Hi]; · iexact Hi
    isplitl [Hc He]
    · isplitl [Hc]; · iexact Hc
      iexact He
    iexact Hd
  · rw [if_neg h, show n.val + 1 - 3 = n.val - 3 by omega]
    unfold slotOut
    rw [dif_neg fun h' => h h'.1]
    iintro ⟨Hs, He, -, Hd⟩
    iapply (runs_ret d i)
    isplitl [Hs]; · iexact Hs
    isplitl [He]; · iexact He
    iexact Hd

/-- After stage `n` the slot asks for chunk `n + 3`, if there is one. -/
theorem refill_runs (B : Slot) (n : Fin 24) :
    iprop(idleIn d i B ∗ later (n.val + 3) (inChunk d i X Y))
      ⊢ (runs d i (refill i B n) fun _ => iprop(slotIn d i X Y B (n.val + 3) ∗ later (n.val + 1 + 3) (inChunk d i X Y)) : sProp 𝕄) := by
  unfold refill
  by_cases h : n.val + 3 < 25
  · rw [dif_pos h]
    have e : later (n.val + 3) (inChunk d i X Y) = iprop(inChunk d i X Y ⟨n.val + 3, h⟩ ∗ later (n.val + 1 + 3) (inChunk d i X Y)) := by
      rw [show n.val + 1 + 3 = n.val + 3 + 1 by omega]
      exact later_take ⟨n.val + 3, h⟩ _
    rw [e]
    iintro ⟨Hi, Hc, Hl⟩
    iapply (wp_wand frame _ _) $$ [Hi Hc]
    · iapply (issueIn_runs d i X Y B ⟨n.val + 3, h⟩)
      isplitl [Hi]; · iexact Hi
      iexact Hc
    iintro %_u Hs
    isplitl [Hs]; · iexact Hs
    iexact Hl
  · rw [dif_neg h, later_none (show 25 ≤ n.val + 3 by omega), later_none (show 25 ≤ n.val + 1 + 3 by omega)]
    unfold slotIn
    rw [dif_neg h]
    iintro ⟨Hi, He⟩
    iapply (runs_ret d i)
    isplitl [Hi]; · iexact Hi
    iexact He

/-- The chunks before stage `n`: those asked for, back, not yet written, written. -/
def chunks (G : Vec F S200x16384 .i32) (n : ℕ) : sProp 𝕄 :=
  iprop(later (n + 3) (inChunk d i X Y) ∗ earlier n (inChunk d i X Y) ∗ later n (outChunk d i G) ∗ earlier (n - 3) (outChunk d i (result P A X Y)))

variable (hX : ∀ z, (X z : BitVec 32).toNat < 1024)
include hX

/-- Stage `n`. -/
theorem stage_runs (B : Slot) (G : Vec F S200x16384 .i32) (n : Fin 24) :
    iprop((slotIn d i X Y B n.val ∗ slotOut d i P A X Y B n.val) ∗ tabs d i P A ∗ chunks d i P A X Y G n.val ∗ MayWaits (thr d i) none O ∗ debts d i O W)
      ⊢ (runs d i (stage i B n) fun _ => iprop((slotIn d i X Y B (n.val + 3) ∗ slotOut d i P A X Y B (n.val + 3)) ∗ tabs d i P A ∗ chunks d i P A X Y G (n.val + 1) ∗ debts d i O W) : sProp 𝕄) := by
  have hn : n.val < 25 := by omega
  unfold stage chunks tabs
  rw [show later n.val (outChunk d i G) = iprop(outChunk d i G ⟨n.val, hn⟩ ∗ later (n.val + 1) (outChunk d i G)) from later_take ⟨n.val, hn⟩ _,
    show earlier (n.val + 1) (inChunk d i X Y) = iprop(inChunk d i X Y ⟨n.val, hn⟩ ∗ earlier n.val (inChunk d i X Y)) from earlier_put ⟨n.val, hn⟩ _]
  iintro ⟨⟨Hin, Hout⟩, ⟨HP, HA⟩, ⟨Hli, Hei, ⟨Hc, Hlo⟩, Heo⟩, #Hm, Hd⟩
  iapply (runs_then d i (waitIn_runs d i X Y B ⟨n.val, hn⟩)) $$ [Hin Hd]
  · isplitl [Hin]; · iexact Hin
    isplitr; · iexact Hm
    iexact Hd
  iintro %_u ⟨Hi, Hp, Hsi, Hsp, Hcin, Hd⟩
  iapply (runs_then d i (drain_runs d i P A X Y B n)) $$ [Hout Heo Hd]
  · isplitl [Hout]; · iexact Hout
    isplitl [Heo]; · iexact Heo
    isplitr; · iexact Hm
    iexact Hd
  unfold idleOut
  iintro %_u ⟨⟨⟨%o, Ho⟩, Hso⟩, Heo, Hd⟩
  iapply (runs_then d i (compute_runs d i B P A (part i X ⟨n.val, hn⟩) (part i Y ⟨n.val, hn⟩) (fun z => hX _) o)) $$ [Hi Hp HP HA Ho]
  · isplitl [Hi]; · iexact Hi
    isplitl [Hp]; · iexact Hp
    isplitl [HP]; · iexact HP
    isplitl [HA]; · iexact HA
    iexact Ho
  iintro %_u ⟨Hi, Hp, HP, HA, Ho⟩
  iapply (runs_then d i (issueOut_runs d i P A X Y B G ⟨n.val, hn⟩)) $$ [Ho Hso Hc]
  · isplitl [Ho]; · iexact Ho
    isplitl [Hso]; · iexact Hso
    iexact Hc
  iintro %_u Hout
  iapply (wp_wand frame _ _) $$ [Hi Hp Hsi Hsp Hli]
  · iapply (refill_runs d i X Y B n)
    isplitl [Hi Hp Hsi Hsp]
    · unfold idleIn
      isplitl [Hi]; · iexists _; iexact Hi
      isplitl [Hp]; · iexists _; iexact Hp
      isplitl [Hsi]; · iexact Hsi
      iexact Hsp
    iexact Hli
  iintro %_u ⟨Hin, Hli⟩
  isplitl [Hin Hout]
  · isplitl [Hin]; · iexact Hin
    iexact Hout
  isplitl [HP HA]
  · isplitl [HP]; · iexact HP
    iexact HA
  isplitr [Hd]
  · isplitl [Hli]; · iexact Hli
    isplitl [Hcin Hei]
    · isplitl [Hcin]; · iexact Hcin
      iexact Hei
    isplitl [Hlo]; · iexact Hlo
    iexact Heo
  iexact Hd

end Ring

end Cert.Proof.Alias
-- ==== Proof.Tile.lean ====
/-
  The subcore's body, whole: the tables brought in, the ring run, the last chunk, and everything back.
-/
module

public import proofs.«01_k».proof.Proof.Ring

@[expose] public section

noncomputable section

namespace Cert.Proof.Alias

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F]

local notation "𝕄" => MT nD τ sig (HIx 1) (Elt F) ℕ UU ℕ

section Tile

variable (d : Dev nD) (i : grid0.Coords) (P : Vec F S1024 .f32) (A : Vec F S1024 .i32) (X : Vec F S200x16384 .i32) (Y : Vec F S200x16384 .f32)
  (G : Vec F S200x16384 .i32) {O : CellTallies nD τ sig (HIx 1)} {W : Waits sig (HIx 1)}

/-- A slot before its stage `n`. -/
def slotAt (B : Slot) (n : ℕ) : sProp (MT nD τ sig (HIx 1) (Elt F) ℕ UU ℕ) := iprop(slotIn d i X Y B n ∗ slotOut d i P A X Y B n)

/-- The ring before its trip `k`. -/
def ringAt (k : ℕ) : sProp (MT nD τ sig (HIx 1) (Elt F) ℕ UU ℕ) :=
  iprop(slotAt d i P A X Y slot0 (3 * k) ∗ slotAt d i P A X Y slot1 (3 * k + 1) ∗ slotAt d i P A X Y slot2 (3 * k + 2) ∗ tabs d i P A ∗ chunks d i P A X Y G (3 * k))

variable (hX : ∀ z, (X z : BitVec 32).toNat < 1024)
include hX

/-- A trip of the ring. -/
theorem ring_runs (k : Fin k0_t1_loop.trips) :
    iprop(ringAt d i P A X Y G k.val ∗ MayWaits (thr d i) none O ∗ debts d i O W)
      ⊢ (runs d i (ringTrip i k) fun _ => iprop(ringAt d i P A X Y G (k.val + 1) ∗ MayWaits (thr d i) none O ∗ debts d i O W) : sProp 𝕄) := by
  have hk := ring_lt k
  have h0 : 3 * k.val < 24 := by omega
  have h1 : 3 * k.val + 1 < 24 := by omega
  have h2 : 3 * k.val + 2 < 24 := by omega
  unfold ringTrip ringAt slotAt
  rw [show 3 * (k.val + 1) = 3 * k.val + 3 by omega]
  iintro ⟨⟨H0, H1, H2, Ht, Hc⟩, #Hm, Hd⟩
  iapply (runs_then d i (stage_runs d i P A X Y hX slot0 G ⟨3 * k.val, h0⟩)) $$ [H0 Ht Hc Hd]
  · isplitl [H0]; · iexact H0
    isplitl [Ht]; · iexact Ht
    isplitl [Hc]; · iexact Hc
    isplitr; · iexact Hm
    iexact Hd
  iintro %_u ⟨H0, Ht, Hc, Hd⟩
  iapply (runs_then d i (stage_runs d i P A X Y hX slot1 G ⟨3 * k.val + 1, h1⟩)) $$ [H1 Ht Hc Hd]
  · isplitl [H1]; · iexact H1
    isplitl [Ht]; · iexact Ht
    isplitl [Hc]; · iexact Hc
    isplitr; · iexact Hm
    iexact Hd
  iintro %_u ⟨H1, Ht, Hc, Hd⟩
  iapply (wp_wand frame _ _) $$ [H2 Ht Hc Hd]
  · iapply (stage_runs d i P A X Y hX slot2 G ⟨3 * k.val + 2, h2⟩)
    isplitl [H2]; · iexact H2
    isplitl [Ht]; · iexact Ht
    isplitl [Hc]; · iexact Hc
    isplitr; · iexact Hm
    iexact Hd
  iintro %_u ⟨H2, Ht, Hc, Hd⟩
  isplitr [Hd]
  · isplitl [H0]; · iexact H0
    isplitl [H1]; · iexact H1
    isplitl [H2]; · iexact H2
    isplitl [Ht]; · iexact Ht
    iexact Hc
  isplitr; · iexact Hm
  iexact Hd

/-- The ring. -/
theorem loop_runs :
    iprop(ringAt d i P A X Y G 0 ∗ MayWaits (thr d i) none O ∗ debts d i O W)
      ⊢ (runs d i (Scf.Loop.for k0_t1_loop k0_t1_ok 0#32 (fun k _ => do ringTrip i k; pure 0#32)) fun _ => iprop(ringAt d i P A X Y G 8 ∗ MayWaits (thr d i) none O ∗ debts d i O W) : sProp 𝕄) := by
  refine BIBase.Entails.trans ?_ (Scf.wp_for frame (wpE (defs₀ (F := F)) 𝒱₀ (thr d i) none) Set.univ _ _ _ k0_t1_ok _ _
    (fun k _ => iprop(ringAt d i P A X Y G k ∗ MayWaits (thr d i) none O ∗ debts d i O W)) fun k _ => runs_bind d i (ring_runs d i P A X Y G hX k) fun _ => runs_ret d i _)
  iintro H
  isplitl [H]; · iexact H
  iintro %_x H
  iexact H

/-- What the subcore holds of its own at rest: tables, slots, semaphores. -/
def idle : sProp (MT nD τ sig (HIx 1) (Elt F) ℕ UU ℕ) :=
  iprop((∃ p, owns (thr d i) probTab fullShare p) ∗ (∃ a, owns (thr d i) aliasTab fullShare a)
    ∗ semVal ((thr d i, .dma cc0_scratch20.sem) : GSem nD τ sig) 0 ∗ semVal ((thr d i, .dma cc0_scratch21.sem) : GSem nD τ sig) 0
    ∗ (idleIn d i slot0 ∗ idleOut d i slot0) ∗ (idleIn d i slot1 ∗ idleOut d i slot1) ∗ (idleIn d i slot2 ∗ idleOut d i slot2))

/-- What it is lent: a share of each table in main memory, its chunks of the indices and draws, its chunks of the
    results at `R`. -/
def lent (q : PosShare TreeShare) (R : Vec F S200x16384 .i32) : sProp (MT nD τ sig (HIx 1) (Elt F) ℕ UU ℕ) :=
  iprop(owns (thr d i) probH q P ∗ owns (thr d i) aliasH q A ∗ bigSep Finset.univ (inChunk d i X Y) ∗ bigSep Finset.univ (outChunk d i R))

/-- The body: what the subcore was lent comes back with the results in place. -/
theorem body_runs (q : PosShare TreeShare) :
    iprop(lent d i P A X Y q G ∗ idle d i ∗ MayWaits (thr d i) none O ∗ debts d i O W)
      ⊢ (runs d i (body i) fun _ => iprop(lent d i P A X Y q (result P A X Y) ∗ idle d i ∗ debts d i O W) : sProp 𝕄) := by
  unfold lent idle body
  simp only [Prog.lift, Prog.bind_op, Prog.bind_ret]
  conv_lhs =>
    rw [← later_zero (inChunk d i X Y), ← later_zero (outChunk d i G),
      show later 0 (inChunk d i X Y) = iprop(inChunk d i X Y 0 ∗ later 1 (inChunk d i X Y)) from later_take 0 _,
      show later 1 (inChunk d i X Y) = iprop(inChunk d i X Y 1 ∗ later 2 (inChunk d i X Y)) from later_take 1 _,
      show later 2 (inChunk d i X Y) = iprop(inChunk d i X Y 2 ∗ later 3 (inChunk d i X Y)) from later_take 2 _]
  rw [← earlier_all (inChunk d i X Y), ← earlier_all (outChunk d i (result P A X Y))]
  iintro ⟨⟨HP, HA, ⟨Hc0, Hc1, Hc2, Hli⟩, Hlo⟩, ⟨⟨%p, HpT⟩, ⟨%a, HaT⟩, HsP, HsA, ⟨Hi0, Ho0⟩, ⟨Hi1, Ho1⟩, ⟨Hi2, Ho2⟩⟩, #Hm, Hd⟩
  iapply (runs_issue d i probTab.view.dmaCredit rfl (View.dmaCredit_pos _ (by decide)) P p) $$ [HP HpT HsP]
  · isplitl [HP]; · iexact HP
    isplitl [HpT]; · iexact HpT
    iexact HsP
  iintro HfP
  iapply (runs_issue d i aliasTab.view.dmaCredit rfl (View.dmaCredit_pos _ (by decide)) A a) $$ [HA HaT HsA]
  · isplitl [HA]; · iexact HA
    isplitl [HaT]; · iexact HaT
    iexact HsA
  iintro HfA
  iapply (runs_then d i (issueIn_runs d i X Y slot0 0)) $$ [Hi0 Hc0]
  · isplitl [Hi0]; · iexact Hi0
    iexact Hc0
  iintro %_u Hi0
  iapply (runs_then d i (issueIn_runs d i X Y slot1 1)) $$ [Hi1 Hc1]
  · isplitl [Hi1]; · iexact Hi1
    iexact Hc1
  iintro %_u Hi1
  iapply (runs_then d i (issueIn_runs d i X Y slot2 2)) $$ [Hi2 Hc2]
  · isplitl [Hi2]; · iexact Hi2
    iexact Hc2
  iintro %_u Hi2
  iapply (runs_wait' d i rfl) $$ [HfP Hd]
  · isplitl [HfP]; · iexact HfP
    isplitr; · iexact Hm
    iexact Hd
  iintro ⟨⟨HpT, HP⟩, HsP, Hd⟩
  iapply (runs_wait' d i rfl) $$ [HfA Hd]
  · isplitl [HfA]; · iexact HfA
    isplitr; · iexact Hm
    iexact Hd
  iintro ⟨⟨HaT, HA⟩, HsA, Hd⟩
  have start : ∀ (B : Slot) (n : ℕ), n < 3 → idleOut d i B ⊢ (slotOut d i P A X Y B n : sProp 𝕄) := by
    intro B n h
    unfold slotOut; rw [dif_neg fun h' => by omega]
  iapply (runs_then d i (loop_runs d i P A X Y G hX)) $$ [Hi0 Ho0 Hi1 Ho1 Hi2 Ho2 HpT HaT Hli Hlo Hd]
  · isplitr [Hd]
    · unfold ringAt slotAt tabs chunks
      isplitl [Hi0 Ho0]
      · isplitl [Hi0]; · iexact Hi0
        iapply (start slot0 0 (by omega)); iexact Ho0
      isplitl [Hi1 Ho1]
      · isplitl [Hi1]; · iexact Hi1
        iapply (start slot1 1 (by omega)); iexact Ho1
      isplitl [Hi2 Ho2]
      · isplitl [Hi2]; · iexact Hi2
        iapply (start slot2 2 (by omega)); iexact Ho2
      isplitl [HpT HaT]
      · isplitl [HpT]; · iexact HpT
        iexact HaT
      isplitl [Hli]; · iexact Hli
      isplitr; · rw [show 3 * 0 = 0 from rfl, earlier_zero]; iempintro
      isplitl [Hlo]; · iexact Hlo
      rw [show 3 * 0 - 3 = 0 from rfl, earlier_zero]; iempintro
    isplitr; · iexact Hm
    iexact Hd
  unfold ringAt slotAt tabs chunks
  rw [show later (3 * 8) (outChunk d i G) = iprop(outChunk d i G 24 ∗ later 25 (outChunk d i G)) from later_take 24 _,
    show earlier 25 (inChunk d i X Y) = iprop(inChunk d i X Y 24 ∗ earlier 24 (inChunk d i X Y)) from earlier_put 24 _,
    show earlier 25 (outChunk d i (result P A X Y)) = iprop(outChunk d i (result P A X Y) 24 ∗ earlier 24 (outChunk d i (result P A X Y))) from earlier_put 24 _,
    show earlier 24 (outChunk d i (result P A X Y)) = iprop(outChunk d i (result P A X Y) 23 ∗ earlier 23 (outChunk d i (result P A X Y))) from earlier_put 23 _,
    show earlier 23 (outChunk d i (result P A X Y)) = iprop(outChunk d i (result P A X Y) 22 ∗ earlier 22 (outChunk d i (result P A X Y))) from earlier_put 22 _,
    show earlier 22 (outChunk d i (result P A X Y)) = iprop(outChunk d i (result P A X Y) 21 ∗ earlier 21 (outChunk d i (result P A X Y))) from earlier_put 21 _]
  have stop : ∀ (B : Slot) (n : ℕ), 25 ≤ n → slotIn d i X Y B n ⊢ (idleIn d i B : sProp 𝕄) := by
    intro B n h
    unfold slotIn; rw [dif_neg (by omega)]
  iintro %_x ⟨⟨⟨Hi0, Ho0⟩, ⟨Hi1, Ho1⟩, ⟨Hi2, Ho2⟩, ⟨HpT, HaT⟩, -, Hei, ⟨Hc, -⟩, Heo⟩, -, Hd⟩
  iapply (runs_then d i (waitIn_runs d i X Y slot0 24)) $$ [Hi0 Hd]
  · isplitl [Hi0]; · iexact Hi0
    isplitr; · iexact Hm
    iexact Hd
  iintro %_u ⟨Hx, Hy, Hsi, Hsp, Hcin, Hd⟩
  iapply (runs_then d i (waitOut_runs d i P A X Y slot0 21)) $$ [Ho0 Hd]
  · isplitl [Ho0]; · iexact Ho0
    isplitr; · iexact Hm
    iexact Hd
  unfold idleOut
  iintro %_u ⟨⟨⟨%o, Ho⟩, Hso⟩, Hc21, Hd⟩
  iapply (runs_then d i (compute_runs d i slot0 P A (part i X 24) (part i Y 24) (fun z => hX _) o)) $$ [Hx Hy HpT HaT Ho]
  · isplitl [Hx]; · iexact Hx
    isplitl [Hy]; · iexact Hy
    isplitl [HpT]; · iexact HpT
    isplitl [HaT]; · iexact HaT
    iexact Ho
  iintro %_u ⟨Hx, Hy, HpT, HaT, Ho⟩
  iapply (runs_then d i (issueOut_runs d i P A X Y slot0 G 24)) $$ [Ho Hso Hc]
  · isplitl [Ho]; · iexact Ho
    isplitl [Hso]; · iexact Hso
    iexact Hc
  iintro %_u Ho0
  iapply (runs_then d i (waitOut_runs d i P A X Y slot1 22)) $$ [Ho1 Hd]
  · isplitl [Ho1]; · iexact Ho1
    isplitr; · iexact Hm
    iexact Hd
  iintro %_u ⟨Ho1, Hc22, Hd⟩
  iapply (runs_then d i (waitOut_runs d i P A X Y slot2 23)) $$ [Ho2 Hd]
  · isplitl [Ho2]; · iexact Ho2
    isplitr; · iexact Hm
    iexact Hd
  iintro %_u ⟨Ho2, Hc23, Hd⟩
  iapply (wp_wand frame _ _) $$ [Ho0 Hd]
  · iapply (waitOut_runs d i P A X Y slot0 24)
    isplitl [Ho0]; · iexact Ho0
    isplitr; · iexact Hm
    iexact Hd
  iintro %_u ⟨Ho0, Hc24, Hd⟩
  isplitl [HP HA Hcin Hei Hc21 Hc22 Hc23 Hc24 Heo]
  · isplitl [HP]; · iexact HP
    isplitl [HA]; · iexact HA
    isplitl [Hcin Hei]
    · isplitl [Hcin]; · iexact Hcin
      iexact Hei
    isplitl [Hc24]; · iexact Hc24
    isplitl [Hc23]; · iexact Hc23
    isplitl [Hc22]; · iexact Hc22
    isplitl [Hc21]; · iexact Hc21
    iexact Heo
  isplitr [Hd]
  · isplitl [HpT]; · iexists _; iexact HpT
    isplitl [HaT]; · iexists _; iexact HaT
    isplitl [HsP]; · iexact HsP
    isplitl [HsA]; · iexact HsA
    unfold idleOut
    isplitl [Hx Hy Hsi Hsp Ho0]
    · isplitr [Ho0]
      · unfold idleIn
        isplitl [Hx]; · iexists _; iexact Hx
        isplitl [Hy]; · iexists _; iexact Hy
        isplitl [Hsi]; · iexact Hsi
        iexact Hsp
      iexact Ho0
    isplitl [Hi1 Ho1]
    · isplitl [Hi1]; · iapply (stop slot1 25 (by omega)); iexact Hi1
      iexact Ho1
    isplitl [Hi2]; · iapply (stop slot2 26 (by omega)); iexact Hi2
    iexact Ho2
  iexact Hd

end Tile

end Cert.Proof.Alias
-- ==== Proof.Task.lean ====
/-
  The task of a subcore as the launch hands it over: its scratch buffers and semaphores taken out of what the subcore
  owns, the body run, and everything handed back.
-/
module

public import proofs.«01_k».proof.Proof.Tile
public import Idealize.ShloMosaic.Lib.SparseCore.Quiescent

@[expose] public section

noncomputable section

namespace Cert.Proof.Alias

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The call's set-up is well formed. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A subcore's own buffers and semaphores -/

/-- The scratch buffers, -/
def scratch : Fin 11 → Ref sig .scVector :=
  ![cc0_scratch0, cc0_scratch1, cc0_scratch2, cc0_scratch3, cc0_scratch4, cc0_scratch5, cc0_scratch6, cc0_scratch7, cc0_scratch8, cc0_scratch9, cc0_scratch10]
/-- and the semaphores. -/
def signals : Fin 11 → DmaSem sig :=
  ![cc0_scratch11.sem, cc0_scratch12.sem, cc0_scratch13.sem, cc0_scratch14.sem, cc0_scratch15.sem, cc0_scratch16.sem, cc0_scratch17.sem, cc0_scratch18.sem,
    cc0_scratch19.sem, cc0_scratch20.sem, cc0_scratch21.sem]

/-- The scratch buffers are different buffers. -/
theorem scratch_injective : Function.Injective scratch := by decide
/-- The semaphores are different semaphores. -/
theorem signals_injective : Function.Injective signals := by decide

section Own

variable (d : Dev nD) (i : grid0.Coords)

/-- A separating conjunction over eleven. -/
theorem bigSep_eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide]
  repeat rw [SparseCore.bigSep_insert' (by decide)]
  rw [bigSep_singleton]

/-- The subcore's buffers and semaphores, and those among its own that are others. -/
abbrev bufSet : Finset (DevRef τ sig) := Finset.univ.image fun k => (thr d i).2.devRef (scratch k)
abbrev semSet : Finset (GSem nD τ sig) := Finset.univ.image fun k => ((thr d i, .dma (signals k)) : GSem nD τ sig)
def spareBufs : sProp (MT nD τ sig (HIx 1) (Elt F) ℕ UU ℕ) := bigSep (ownRefs (thr d i).2 \ bufSet d i) fun b => iprop(∃ f, ((d, b) : Loc nD τ sig) ↦{fullShare} f)
def spareSems : sProp (MT nD τ sig (HIx 1) (Elt F) ℕ UU ℕ) := bigSep (ownCells (thr d i) \ semSet d i) fun g => semVal g 0

/-- A tile's own buffers are its scratch buffers and the spare ones. -/
theorem ownBufs_eq :
    (ownBufs (thr d i) : sProp 𝕄) = iprop((bigSep Finset.univ fun k => iprop(∃ f, (thr d i).loc (scratch k) ↦{fullShare} f)) ∗ spareBufs d i) := by
  have hsub : bufSet d i ⊆ ownRefs (thr d i).2 := by
    intro b hb
    obtain ⟨k, -, rfl⟩ := Finset.mem_image.mp hb
    refine SparseCore.Cfg.mem_ownRefs_of_owner ?_
    fin_cases k <;> rfl
  unfold SparseCore.Cfg.ownBufs spareBufs
  conv_lhs => rw [← Finset.union_sdiff_of_subset hsub]
  rw [bigSep_union Finset.disjoint_sdiff, SparseCore.bigSep_image_of_injOn fun a _ b _ e => scratch_injective (Proc.devRef_injective _ e)]
  rfl

/-- A tile's own semaphores at zero are the ones the body uses and the spare ones. -/
theorem ownSems_eq :
    (ownSems0 (thr d i) : sProp 𝕄) = iprop((bigSep Finset.univ fun k => semVal ((thr d i, .dma (signals k)) : GSem nD τ sig) 0) ∗ spareSems d i) := by
  have hsub : semSet d i ⊆ ownCells (thr d i) := by
    intro g hg
    obtain ⟨k, -, rfl⟩ := Finset.mem_image.mp hg
    refine mem_ownCells.mpr ⟨rfl, ?_⟩
    show (SemLoc.dma (signals k) : SemLoc sig).isScoped .scVector = true
    clear hg; revert k; decide
  unfold SparseCore.Cfg.ownSems0 spareSems
  conv_lhs => rw [← Finset.union_sdiff_of_subset hsub]
  rw [bigSep_union Finset.disjoint_sdiff, SparseCore.bigSep_image_of_injOn fun a _ b _ e => signals_injective (SemLoc.dma.inj (Prod.mk.inj e).2)]
  rfl

/-- The eleven buffers at some contents, and the eleven semaphores at zero. -/
abbrev scratches : sProp (MT nD τ sig (HIx 1) (Elt F) ℕ UU ℕ) := bigSep Finset.univ fun k => iprop(∃ f, (thr d i).loc (scratch k) ↦{fullShare} f)
abbrev quiet : sProp (MT nD τ sig (HIx 1) (Elt F) ℕ UU ℕ) := bigSep Finset.univ fun k => semVal ((thr d i, .dma (signals k)) : GSem nD τ sig) 0

/-- They are the subcore at rest. -/
theorem idle_intro : iprop(scratches d i ∗ quiet d i) ⊢ (idle d i : sProp 𝕄) := by
  unfold scratches quiet
  rw [bigSep_eleven, bigSep_eleven]
  unfold idle idleIn idleOut slot0 slot1 slot2
  simp only [owns_whole]
  iintro ⟨⟨B0, B1, B2, B3, B4, B5, B6, B7, B8, B9, B10⟩, S0, S1, S2, S3, S4, S5, S6, S7, S8, S9, S10⟩
  isplitl [B0]; · iexact B0
  isplitl [B1]; · iexact B1
  isplitl [S9]; · iexact S9
  isplitl [S10]; · iexact S10
  isplitl [B2 B5 S0 S3 B8 S6]
  · isplitr [B8 S6]
    · isplitl [B2]; · iexact B2
      isplitl [B5]; · iexact B5
      isplitl [S0]; · iexact S0
      iexact S3
    isplitl [B8]; · iexact B8
    iexact S6
  isplitl [B3 B6 S1 S4 B9 S7]
  · isplitr [B9 S7]
    · isplitl [B3]; · iexact B3
      isplitl [B6]; · iexact B6
      isplitl [S1]; · iexact S1
      iexact S4
    isplitl [B9]; · iexact B9
    iexact S7
  isplitr [B10 S8]
  · isplitl [B4]; · iexact B4
    isplitl [B7]; · iexact B7
    isplitl [S2]; · iexact S2
    iexact S5
  isplitl [B10]; · iexact B10
  iexact S8

/-- An idle tile holds its scratch buffers, and its semaphores at zero. -/
theorem idle_elim : (idle d i : sProp 𝕄) ⊢ iprop(scratches d i ∗ quiet d i) := by
  unfold scratches quiet
  rw [bigSep_eleven, bigSep_eleven]
  unfold idle idleIn idleOut slot0 slot1 slot2
  simp only [owns_whole]
  iintro ⟨B0, B1, S9, S10, ⟨⟨B2, B5, S0, S3⟩, B8, S6⟩, ⟨⟨B3, B6, S1, S4⟩, B9, S7⟩, ⟨B4, B7, S2, S5⟩, B10, S8⟩
  isplitl [B0 B1 B2 B3 B4 B5 B6 B7 B8 B9 B10]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexact S10

end Own

section Run

variable (d : Dev nD) (i : grid0.Coords) (P : Vec F S1024 .f32) (A : Vec F S1024 .i32) (X : Vec F S200x16384 .i32) (Y : Vec F S200x16384 .f32)
  (G : Vec F S200x16384 .i32)

/-- The kernel as the launch calls it. -/
abbrev kernel : TileProg F i PUnit :=
  cc0__body i (Memref.whole main_v0_scv) (Memref.isWhole_whole _) (Memref.whole main_v1_scv) (Memref.isWhole_whole _) (Memref.whole main_v2_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21

/-- The task of subcore `i`: it gives back what it was lent with its chunks of the results in place, and all that is
    its own at rest. -/
theorem task_runs (hX : ∀ z, (X z : BitVec 32).toNat < 1024) (q : PosShare TreeShare) (O : CellTallies nD τ sig (HIx 1)) (W : Waits sig (HIx 1)) (hO : ∀ g, O g none = 0) :
    iprop(levAts (K (F := F)).L (K (F := F)).lev ∗ emp ∗ lent d i P A X Y q G ∗ scopedBufs (thr d i) ∗ scopedSems0 (thr d i) ∗ owes (thr d i) O W)
      ⊢ (runs d i (kernel i) fun _ => iprop(lent d i P A X Y q (result P A X Y) ∗ scopedBufs (thr d i) ∗ scopedSems0 (thr d i)
          ∗ ∃ W', ⌜∀ p ∈ W', p ∈ W ∨ p.2 = none⌝ ∗ owes (thr d i) O W') : sProp 𝕄) := by
  rw [show (kernel i : TileProg F i PUnit) = body i from body_eq i, (K (F := F)).scopedBufs_V facts, SparseCore.Cfg.scopedSems0_V (Val := Elt F), ownBufs_eq d i, ownSems_eq d i]
  iintro ⟨#Hlv, -, Hl, ⟨Hb, HB⟩, ⟨Hs, HS⟩, HO⟩
  ihave Hm := ((K (F := F)).mayWaits_none (thr := thr d i) hO) $$ Hlv
  iapply (wp_wand frame _ _) $$ [Hl Hb Hs HO Hm]
  · iapply (body_runs d i P A X Y G hX (O := O) (W := W) q)
    isplitl [Hl]; · iexact Hl
    isplitl [Hb Hs]
    · iapply (idle_intro d i)
      isplitl [Hb]; · iexact Hb
      iexact Hs
    isplitl [Hm]; · iexact Hm
    unfold debts
    iexists W; isplitr
    · ipureintro; exact fun p hp => .inl hp
    · iexact HO
  iintro %_u ⟨Hl, Hi, Hd⟩
  ihave Hi' := (idle_elim d i) $$ Hi
  icases Hi' with ⟨Hb, Hs⟩
  isplitl [Hl]; · iexact Hl
  isplitl [Hb HB]
  · isplitl [Hb]; · iexact Hb
    iexact HB
  isplitl [Hs HS]
  · isplitl [Hs]; · iexact Hs
    iexact HS
  unfold debts; iexact Hd

end Run

end Cert.Proof.Alias
-- ==== Proof.Deal.lean ====
/-
  How the call's arrays are dealt to the thirty-two subcores: a share of each table to every one, the chunks of the
  indices, the draws and the results each to the one that works on it.
-/
module

public import proofs.«01_k».proof.Proof.Tile

@[expose] public section

noncomputable section

namespace Cert.Proof.Alias

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (dealOf pointsTo_deal)

variable {F : FTy → Type} [FloatOps F]

local notation "𝕄" => MT nD τ sig (HIx 1) (Elt F) ℕ UU ℕ

/-- The subcore number `s` of SparseCore `c`. -/
def at_ (c : Fin 2) (s : Fin 16) : grid0.Coords := fun | 0 => c | 1 => s | ⟨_ + 2, h⟩ => absurd h (Nat.not_lt.2 (Nat.le_add_left _ _))

/-- Its share of a table. -/
def shareOf (c : Fin 2) (s : Fin 16) : PosShare TreeShare := dealOf (dealOf fullShare (Finset.univ : Finset (Fin 2)) c) (Finset.univ : Finset (Fin 16)) s

/-- The rectangles of all the chunks. -/
abbrev rectOf (t : Fin 2 × Fin 16 × Fin 25) : Rect S200x16384 := chunkRect (at_ t.1 t.2.1) t.2.2

/-- An element is in a chunk when its row and its column are. -/
theorem mem_rectOf (t : Fin 2 × Fin 16 × Fin 25) (x : S200x16384.Idx) :
    x ∈ (rectOf t).set ↔ (8 * t.2.2.val ≤ (x 0).val ∧ (x 0).val < 8 * t.2.2.val + 8)
      ∧ (1024 * t.2.1.val + 512 * t.1.val ≤ (x 1).val ∧ (x 1).val < 1024 * t.2.1.val + 512 * t.1.val + 512) := by
  rw [Rect.mem_set_unit]
  constructor
  · intro h; exact ⟨h 0, h 1⟩
  · rintro ⟨h0, h1⟩ a; fin_cases a
    · exact h0
    · exact h1

/-- Two chunks have no element in common, -/
theorem rects_disjoint (t t' : Fin 2 × Fin 16 × Fin 25) (h : t ≠ t') : Disjoint (rectOf t).set (rectOf t').set := by
  refine Finset.disjoint_left.mpr fun x hx hx' => h ?_
  rw [mem_rectOf] at hx hx'
  obtain ⟨c, s, j⟩ := t; obtain ⟨c', s', j'⟩ := t'
  have := c.isLt; have := c'.isLt
  simp only at hx hx'
  simp only [Prod.mk.injEq, Fin.ext_iff]
  omega

/-- and every element is in one. -/
theorem rects_cover : (Finset.univ : Finset (Fin 2 × Fin 16 × Fin 25)).biUnion (fun t => (rectOf t).set) = Finset.univ := by
  refine Finset.eq_univ_of_forall fun x => ?_
  have h0 : (x 0).val < 200 := (x 0).isLt
  have h1 : (x 1).val < 16384 := (x 1).isLt
  have hs : (x 1).val / 1024 < 16 := by omega
  have hc : (x 1).val / 512 % 2 < 2 := by omega
  have hj : (x 0).val / 8 < 25 := by omega
  have hx : x ∈ (rectOf (⟨_, hc⟩, ⟨_, hs⟩, ⟨_, hj⟩)).set := by
    rw [mem_rectOf]
    simp only
    omega
  rw [Finset.mem_biUnion]
  exact ⟨_, Finset.mem_univ _, hx⟩

section Deal

variable (d : Dev nD)

/-- The subcore through which the whole arrays are spoken of. -/
abbrev first : grid0.Coords := at_ 0 0

/-- An array dealt by chunks. `same`: main memory is the same to every subcore of a device. -/
theorem chunks_deal [∀ e, Nonempty (Elt F e)] {e : EltTy} (m : Memref sig .scVector .hbm S200x16384 e)
    (same : ∀ (i i' : grid0.Coords) (t : Fin 2 × Fin 16 × Fin 25) (x : Vec F S8x512 e),
      (owns (thr d i) (m.slice (rectOf t) (fun _ => rfl)) fullShare x : sProp 𝕄) = owns (thr d i') (m.slice (rectOf t) (fun _ => rfl)) fullShare x)
    (G : Vec F S200x16384 e) :
    (owns (thr d first) m fullShare G : sProp 𝕄)
      = bigSep Finset.univ fun c => bigSep Finset.univ fun s => bigSep Finset.univ fun j => owns (thr d (at_ c s)) (chunkOf m (at_ c s) j) fullShare (part (at_ c s) G j) := by
  rw [show (owns (thr d first) m fullShare G : sProp 𝕄) = bigSep Finset.univ fun t : Fin 2 × Fin 16 × Fin 25 => owns (thr d first) (m.slice (rectOf t) (fun _ => rfl)) fullShare (fun z => G ((rectOf t).emb z)) from
    BI.Entails.antisymm (owns_rects (thr d first) m fullShare rectOf (fun _ _ => rfl) rects_disjoint rects_cover G)
      (owns_of_rects (thr d first) m fullShare rectOf (fun _ _ => rfl) rects_disjoint rects_cover G)]
  rw [← Finset.univ_product_univ, SparseCore.bigSep_product]
  refine bigSep_congr fun c _ => ?_
  rw [← Finset.univ_product_univ, SparseCore.bigSep_product]
  refine bigSep_congr fun s _ => bigSep_congr fun j _ => ?_
  exact same first (at_ c s) (c, s, j) _

/-- A table dealt by shares: every subcore reads all of it. -/
theorem table_deal {ℓ : Loc nD τ sig} (f : Buf (Elt F) ℓ) :
    (ℓ ↦{fullShare} f : sProp 𝕄) = bigSep Finset.univ fun c => bigSep Finset.univ fun s => ℓ ↦{shareOf c s} f := by
  rw [pointsTo_deal (Finset.univ : Finset (Fin 2)) Finset.univ_nonempty fullShare]
  exact bigSep_congr fun c _ => pointsTo_deal (Finset.univ : Finset (Fin 16)) Finset.univ_nonempty _

variable (P : Vec F S1024 .f32) (A : Vec F S1024 .i32) (X : Vec F S200x16384 .i32) (Y : Vec F S200x16384 .f32)
  (G : Vec F S200x16384 .i32)

/-- The call's five arrays, whole. -/
def arrays : sProp (MT nD τ sig (HIx 1) (Elt F) ℕ UU ℕ) :=
  iprop(((SparseCore.T d).loc main_v0 ↦{fullShare} P) ∗ ((SparseCore.T d).loc main_v1 ↦{fullShare} A)
    ∗ (((SparseCore.T d).loc main_v2 ↦{fullShare} X) ∗ ((SparseCore.T d).loc main_v3 ↦{fullShare} Y)) ∗ (SparseCore.T d).loc main_v4 ↦{fullShare} G)

/-- They are what the thirty-two subcores are lent. -/
theorem arrays_deal [∀ e, Nonempty (Elt F e)] :
    (arrays d P A X Y G : sProp 𝕄) = bigSep Finset.univ fun c => bigSep Finset.univ fun s => lent d (at_ c s) P A X Y (shareOf c s) G := by
  unfold lent inChunk outChunk arrays
  simp only [bigSep_sep', owns_whole]
  rw [table_deal (ℓ := (SparseCore.T d).loc main_v0) P, table_deal (ℓ := (SparseCore.T d).loc main_v1) A,
    ← chunks_deal d idxH (fun _ _ _ _ => rfl) X, ← chunks_deal d drawH (fun _ _ _ _ => rfl) Y, ← chunks_deal d outH (fun _ _ _ _ => rfl) G,
    owns_whole, owns_whole, owns_whole]

end Deal

end Cert.Proof.Alias
-- ==== Proof.Host.lean ====
/-
  The host's side of the call: what it makes of the arguments before, and of the results after.
-/
module

public import proofs.«01_k».proof.Proof.Task
public import proofs.«01_k».proof.Proof.Deal
public import Idealize.ShloMosaic.Lib.StableHlo.Run

@[expose] public section

noncomputable section

namespace Cert.Proof.Alias

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held held_sub_split held_congr wp_hlo_within wp_seq after seq)

variable {F : FTy → Type} [FloatOps F]

local notation "𝕄" => MT nD τ sig (HIx 1) (Elt F) ℕ UU ℕ

/-! ## The values -/

/-- The thresholds, padded with zeros, -/
def probPad (p : Vec F S1000 .f32) : Vec F S1024 .f32 := pad S1024 ![0] ![24] ![0] p (sitofp .f32 (constantI S_ 32 0#32)) pads_S1000_S1024_0240 h_S_
/-- the replacements, padded with zeros, -/
def aliasPad (a : Vec F S1000 .i32) : Vec F S1024 .i32 := pad S1024 ![0] ![24] ![0] a (constantI S_ 32 0#32) pads_S1000_S1024_0240 h_S_
/-- an array of the arguments turned for the call, -/
def turned {α : Type} (x : S16384x200.Idx → α) : S200x16384.Idx → α := transpose S200x16384 [1, 0] x transposes_S16384x200_S200x16384_1_0
/-- and the call's result turned back. -/
def turnedBack {α : Type} (x : S200x16384.Idx → α) : S16384x200.Idx → α := transpose S16384x200 [1, 0] x transposes_S200x16384_S16384x200_1_0

/-! ## The operations -/

/-- The operations before the call. -/
def lead : List (HloOp τ sig (Elt F)) :=
  [StableHlo.nullary main_c (constantI S_ 32 0#32),
   StableHlo.TRef.unary (.of main_c) main_call0.v0 (sitofp .f32),
   StableHlo.TRef.binary (.of main_arg0 : StableHlo.TRef sig ⟨S1000, .f32⟩) main_call0.v0 main_call0.v1 (fun x v => pad S1024 ![0] ![24] ![0] x v pads_S1000_S1024_0240 h_S_),
   StableHlo.nullary main_c_0 (constantI S_ 32 0#32),
   StableHlo.TRef.unary (.of main_c_0) main_call1.v0 id,
   StableHlo.TRef.binary (.of main_arg1 : StableHlo.TRef sig ⟨S1000, .i32⟩) main_call1.v0 main_call1.v1 (fun x v => pad S1024 ![0] ![24] ![0] x v pads_S1000_S1024_0240 h_S_),
   StableHlo.unary main_arg2 main_v2 ((transpose S200x16384 [1, 0] · transposes_S16384x200_S200x16384_1_0) : (⟨S16384x200, .i32⟩ : BufTy).Contents (Elt F) → (⟨S200x16384, .i32⟩ : BufTy).Contents (Elt F)),
   StableHlo.unary main_arg3 main_v3 ((transpose S200x16384 [1, 0] · transposes_S16384x200_S200x16384_1_0) : (⟨S16384x200, .f32⟩ : BufTy).Contents (Elt F) → (⟨S200x16384, .f32⟩ : BufTy).Contents (Elt F))]

/-- The operation after it. -/
def last : HloOp τ sig (Elt F) :=
  StableHlo.unary main_v4 main_v5 ((transpose S16384x200 [1, 0] · transposes_S200x16384_S16384x200_1_0) : (⟨S200x16384, .i32⟩ : BufTy).Contents (Elt F) → (⟨S16384x200, .i32⟩ : BufTy).Contents (Elt F))

/-- The program is these around the call. -/
theorem main_eq (d : Dev nD) : main (F := F) d = (seq lead >>= fun _ => (sc (F := F)).run d 0 >>= fun _ => hlo rfl last (fun _ => .ret (⟨⟩ : PUnit)) >>= fun _ => pure (⟨⟩ : PUnit)) := rfl

/-! ## The buffers -/

/-- A buffer of the host. -/
abbrev at' (r : Ref sig .tc) : DevRef τ sig := Proc.devRef .tc r

/-- The buffers of the host that no call scopes. -/
def hosts : Finset (Ref sig .tc) := Finset.univ.filter fun b : Ref sig .tc => ¬ b.isScoped

/-- The host's buffers, -/
def mine : Finset (DevRef τ sig) := hosts.image at'
/-- those the call takes, -/
def taken : Finset (DevRef τ sig) := ({main_v0, main_v1, main_v2, main_v3, main_v4} : Finset (Ref sig .tc)).image at'
/-- and those the claim speaks of. -/
def told : Finset (DevRef τ sig) := ({main_arg0, main_arg1, main_arg2, main_arg3, main_v5} : Finset (Ref sig .tc)).image at'

/-- Each array of the host program is among its buffers. -/
theorem mem_mine (r : Ref sig .tc) (h : r ∈ hosts) : at' r ∈ mine := Finset.mem_image_of_mem _ h
/-- The arrays the call takes are the host program's. -/
theorem taken_mine : taken ⊆ mine := Finset.image_subset_image (by decide)
/-- The arrays the claim speaks of are the host program's. -/
theorem told_mine : told ⊆ mine := Finset.image_subset_image (by decide)

/-- One array of the host program, as a set, lies within its buffers. -/
theorem one_mine (r : Ref sig .tc) (h : r ∈ hosts) : ({at' r} : Finset (DevRef τ sig)) ⊆ mine := Finset.singleton_subset_iff.mpr (mem_mine r h)
/-- A set of the host program's buffers with one more of them stays within them. -/
theorem more_mine (r : Ref sig .tc) (h : r ∈ hosts) {A : Finset (DevRef τ sig)} (hA : A ⊆ mine) : insert (at' r) A ⊆ mine := Finset.insert_subset (mem_mine r h) hA

/-- The operations before the call touch only the host program's buffers. -/
theorem lead_mine : ∀ op ∈ (lead : List (HloOp τ sig (Elt F))), op.bufs ⊆ mine := by
  unfold lead
  simp only [List.forall_mem_cons, List.not_mem_nil, IsEmpty.forall_iff, implies_true, and_true]
  exact ⟨one_mine _ (by decide), more_mine _ (by decide) (one_mine _ (by decide)),
    more_mine _ (by decide) (more_mine _ (by decide) (one_mine _ (by decide))), one_mine _ (by decide), more_mine _ (by decide) (one_mine _ (by decide)),
    more_mine _ (by decide) (more_mine _ (by decide) (one_mine _ (by decide))), more_mine _ (by decide) (one_mine _ (by decide)), more_mine _ (by decide) (one_mine _ (by decide))⟩

/-- The operations before the call allocate nothing. -/
theorem lead_fresh : ∀ op ∈ (lead : List (HloOp τ sig (Elt F))), op.fresh = ∅ := by
  unfold lead
  simp only [List.forall_mem_cons, List.not_mem_nil, IsEmpty.forall_iff, implies_true, and_true]
  exact ⟨rfl, rfl, rfl, rfl, rfl, rfl, rfl, rfl⟩

/-- The operation after the call touches only the host program's buffers. -/
theorem last_mine : (last (F := F)).bufs ⊆ mine := more_mine _ (by decide) (one_mine _ (by decide))

/-- The device's unscoped buffers are the host program's, held whole. -/
theorem unscoped_held (d : Dev nD) (W : Valuation τ sig (Elt F)) : (unscopedBufs d (fun b => W (at' b)) : sProp 𝕄) = held (SparseCore.T d) mine W := by
  unfold unscopedBufs held mine hosts
  rw [SparseCore.bigSep_image_of_injOn (f := at') fun a _ b _ e => Proc.devRef_injective _ e]

section Values

variable (W : Valuation τ sig (Elt F))

/-- Before the call the first operand is the padded table of thresholds. -/
theorem lead_v0 : after lead W (at' main_v0) = probPad (W (at' main_arg0)) := by
  unfold lead; after_results; rfl
/-- Before the call the second operand is the padded table of replacements. -/
theorem lead_v1 : after lead W (at' main_v1) = aliasPad (W (at' main_arg1)) := by
  unfold lead; after_results; rfl
/-- Before the call the third operand is the turned indices. -/
theorem lead_v2 : after lead W (at' main_v2) = turned (W (at' main_arg2)) := by
  unfold lead; after_results; rfl
/-- Before the call the fourth operand is the turned draws. -/
theorem lead_v3 : after lead W (at' main_v3) = turned (W (at' main_arg3)) := by
  unfold lead; after_results; rfl
/-- The operations before the call leave the call's output array alone. -/
theorem lead_v4 : after lead W (at' main_v4) = W (at' main_v4) := by
  unfold lead; after_results
/-- They leave the first argument alone. -/
theorem lead_arg0 : after lead W (at' main_arg0) = W (at' main_arg0) := by
  unfold lead; after_results
/-- They leave the second argument alone. -/
theorem lead_arg1 : after lead W (at' main_arg1) = W (at' main_arg1) := by
  unfold lead; after_results
/-- They leave the third argument alone. -/
theorem lead_arg2 : after lead W (at' main_arg2) = W (at' main_arg2) := by
  unfold lead; after_results
/-- They leave the fourth argument alone. -/
theorem lead_arg3 : after lead W (at' main_arg3) = W (at' main_arg3) := by
  unfold lead; after_results

/-- The last operation turns the call's output back. -/
theorem last_v5 : (last (F := F)).result W (at' main_v5) = turnedBack (W (at' main_v4)) := by
  unfold last; rw [StableHlo.unary_result]; rfl
/-- The last operation writes its own result only. -/
theorem last_ne (r : Ref sig .tc) (h : r ≠ main_v5) : (last (F := F)).result W (at' r) = W (at' r) := by
  unfold last; rw [StableHlo.unary_result_ne]; exact h

/-- The third and the fourth of five resources may be bracketed together. -/
theorem regroup (A B C D E : sProp 𝕄) : iprop(A ∗ B ∗ C ∗ D ∗ E) = iprop(A ∗ B ∗ (C ∗ D) ∗ E) := by
  rw [show iprop((C ∗ D) ∗ E) = iprop(C ∗ D ∗ E) from equiv_iff.mp ⟨BI.sep_assoc, BI.sep_assoc'⟩]

/-- What the call takes, spelt out. -/
theorem held_taken (d : Dev nD) : (held (SparseCore.T d) taken W : sProp 𝕄)
    = arrays d (W (at' main_v0)) (W (at' main_v1)) (W (at' main_v2)) (W (at' main_v3)) (W (at' main_v4)) := by
  unfold held taken arrays
  rw [SparseCore.bigSep_image_of_injOn (f := at') fun a _ b _ e => Proc.devRef_injective _ e,
    SparseCore.bigSep_insert' (by decide), SparseCore.bigSep_insert' (by decide), SparseCore.bigSep_insert' (by decide), SparseCore.bigSep_insert' (by decide), bigSep_singleton]
  exact regroup _ _ _ _ _

/-- The arguments and the result, spelt out. -/
theorem held_told (d : Dev nD) : (held (SparseCore.T d) told W : sProp 𝕄)
    = iprop(((SparseCore.T d).loc main_arg0 ↦{fullShare} W (at' main_arg0)) ∗ ((SparseCore.T d).loc main_arg1 ↦{fullShare} W (at' main_arg1)) ∗ ((SparseCore.T d).loc main_arg2 ↦{fullShare} W (at' main_arg2)) ∗ ((SparseCore.T d).loc main_arg3 ↦{fullShare} W (at' main_arg3)) ∗ ((SparseCore.T d).loc main_v5 ↦{fullShare} W (at' main_v5))) := by
  unfold held told
  rw [SparseCore.bigSep_image_of_injOn (f := at') fun a _ b _ e => Proc.devRef_injective _ e,
    SparseCore.bigSep_insert' (by decide), SparseCore.bigSep_insert' (by decide), SparseCore.bigSep_insert' (by decide), SparseCore.bigSep_insert' (by decide), bigSep_singleton]

end Values

end Cert.Proof.Alias
-- ==== Proof.Launch.lean ====
/-
  The launch: what the call is handed and hands back, and the whole program's run.
-/
module

public import proofs.«01_k».proof.Proof.Host
public import Idealize.ShloMosaic.Lib.Pipeline.Kit

@[expose] public section

noncomputable section

namespace Cert.Proof.Alias

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq after seq)

variable {F : FTy → Type} [FloatOps F]

local notation "𝕄" => MT nD τ sig (HIx 1) (Elt F) ℕ UU ℕ

/-! ## The arrays of the call, as the arguments give them -/

section Values

variable (m : (ℓ : Loc nD τ sig) → Buf (Elt F) ℓ) (d : Dev nD)

def probOf : Vec F S1024 .f32 := probPad (m ((SparseCore.T d).loc main_arg0))
def aliasOf : Vec F S1024 .i32 := aliasPad (m ((SparseCore.T d).loc main_arg1))
def indexOf : Vec F S200x16384 .i32 := turned (m ((SparseCore.T d).loc main_arg2))
def drawOf : Vec F S200x16384 .f32 := turned (m ((SparseCore.T d).loc main_arg3))
def oldOf : Vec F S200x16384 .i32 := m ((SparseCore.T d).loc main_v4)
def newOf : Vec F S200x16384 .i32 := result (probOf m d) (aliasOf m d) (indexOf m d) (drawOf m d)

/-- What subcore `s` of SparseCore `c` is lent, its results at `R`. -/
@[irreducible] def loan (R : Vec F S200x16384 .i32) (c : Fin 2) (s : Fin 16) : sProp (MT nD τ sig (HIx 1) (Elt F) ℕ UU ℕ) :=
  lent d (at_ c s) (probOf m d) (aliasOf m d) (indexOf m d) (drawOf m d) (shareOf c s) R

/-- What a tile gets, written out. -/
theorem loan_eq (R : Vec F S200x16384 .i32) (c : Fin 2) (s : Fin 16) :
    loan m d R c s = lent d (at_ c s) (probOf m d) (aliasOf m d) (indexOf m d) (drawOf m d) (shareOf c s) R := by unfold loan; rfl

end Values

/-! ### They travel -/

section Storable

variable (d : Dev nD) (i : grid0.Coords) (P : Vec F S1024 .f32) (A : Vec F S1024 .i32) (X : Vec F S200x16384 .i32) (Y : Vec F S200x16384 .f32)

instance inChunk_storable (j : Fin 25) : BI.Storable (upEmb : UEmb _ 𝕄) (inChunk d i X Y j) := by
  unfold inChunk; infer_instance
instance outChunk_storable (R : Vec F S200x16384 .i32) (j : Fin 25) : BI.Storable (upEmb : UEmb _ 𝕄) (outChunk d i R j) := by
  unfold outChunk; infer_instance
instance lent_storable (q : PosShare TreeShare) (R : Vec F S200x16384 .i32) : BI.Storable (upEmb : UEmb _ 𝕄) (lent d i P A X Y q R) := by
  unfold lent; infer_instance

end Storable

instance loan_storable (m : (ℓ : Loc nD τ sig) → Buf (Elt F) ℓ) (d : Dev nD) (R : Vec F S200x16384 .i32) (c : Fin 2) (s : Fin 16) :
    BI.Storable (upEmb : UEmb _ 𝕄) (loan m d R c s) := by
  rw [loan_eq]; infer_instance

/-- The call runs on two SparseCores. -/
theorem nCore_two : (K (F := F)).nCore 0 = 2 := rfl
/-- The call runs on sixteen tiles of each. -/
theorem nSub_sixteen : (K (F := F)).nSub 0 = 16 := rfl

variable (m : (ℓ : Loc nD τ sig) → Buf (Elt F) ℓ) (ρ : Dev nD → PrngReg)

/-- What the call carries: to each SparseCore its subcores' loans, and back with the results. -/
def P : (K (F := F)).Pay (nD := nD) (Val := Elt F) (Name := ℕ) (U := UU) where
  st := fun q d c => match q with | 0 => bigSep Finset.univ fun s => loan m d (oldOf m d) (Fin.cast nCore_two c) s
  dn := fun q d c => match q with | 0 => bigSep Finset.univ fun s => loan m d (newOf m d) (Fin.cast nCore_two c) s
  go := fun q d c i => match q with | 0 => loan m d (oldOf m d) (Fin.cast nCore_two c) (Fin.cast nSub_sixteen i)
  td := fun q d c i => match q with | 0 => loan m d (newOf m d) (Fin.cast nCore_two c) (Fin.cast nSub_sixteen i)
  x := fun _ _ => iprop(emp)

instance P_storable : (P (F := F) m).IsStorable where
  st q d c := match q with
    | 0 => (inferInstance : BI.Storable (upEmb : UEmb _ 𝕄) (bigSep Finset.univ fun s => loan m d (oldOf m d) (Fin.cast nCore_two c) s))
  dn q d c := match q with
    | 0 => (inferInstance : BI.Storable (upEmb : UEmb _ 𝕄) (bigSep Finset.univ fun s => loan m d (newOf m d) (Fin.cast nCore_two c) s))
  go q d c i := match q with
    | 0 => loan_storable m d (oldOf m d) (Fin.cast nCore_two c) (Fin.cast nSub_sixteen i)
  td q d c i := match q with
    | 0 => loan_storable m d (newOf m d) (Fin.cast nCore_two c) (Fin.cast nSub_sixteen i)

/-- The indices reach no further than the padded tables. -/
def Small : Prop := ∀ d z, (indexOf m d z : BitVec 32).toNat < 1024

/-! ## The tasks -/

/-- A tile runs the call's body at its own coordinates. -/
theorem defs₀_vector (c : Fin τ.nSC) (s : Fin τ.nSub) :
    defs₀ (F := F) (.scVector c s) 0 () = SparseCore.onTile hcore0 hsub0 (fun c s => kernel (at_ c s)) ⟨⟩ c s := rfl

/-- The end of a tile's body, in the form that the call asks for. -/
theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr; · ipureintro; exact fun p hp => (hW p hp).elim Or.inl fun h => Or.inr (Or.inl h)
  iexact HO

/-- Every tile's task, from its loan with the old output, ends with its loan with the new one. -/
theorem tileObl (hm : Small m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [show (P m).go 0 d c i = _ from loan_eq m d (oldOf m d) (Fin.cast nCore_two c) (Fin.cast nSub_sixteen i),
    show (P m).td 0 d c i = _ from loan_eq m d (newOf m d) (Fin.cast nCore_two c) (Fin.cast nSub_sixteen i)]
  exact (task_runs d (at_ (Fin.cast nCore_two c) (Fin.cast nSub_sixteen i)) (probOf m d) (aliasOf m d) (indexOf m d) (drawOf m d) (oldOf m d) (hm d)
    (shareOf (Fin.cast nCore_two c) (Fin.cast nSub_sixteen i)) O W hO).trans (wp_mono frame _ _ fun _ => task_post)

/-- A product over the call's tiles is one over sixteen. -/
theorem over_subs (Φ : Fin 16 → sProp 𝕄) : (bigSep Finset.univ fun i : Fin ((K (F := F)).nSub 0) => Φ (Fin.cast nSub_sixteen i)) = bigSep Finset.univ Φ :=
  bigSep_congr fun _ _ => congrArg Φ (Fin.ext rfl)
/-- A product over the call's SparseCores is one over two. -/
theorem over_cores (Φ : Fin 2 → sProp 𝕄) : (bigSep Finset.univ fun c : Fin ((K (F := F)).nCore 0) => Φ (Fin.cast nCore_two c)) = bigSep Finset.univ Φ :=
  bigSep_congr fun _ _ => congrArg Φ (Fin.ext rfl)

/-- A SparseCore's loan is the loans of its tiles, before and after. -/
theorem vecSplit : (K (F := F)).VecSplit' (P m) 0 := by
  intro d c
  show (bigSep Finset.univ fun s => loan m d (oldOf m d) (Fin.cast nCore_two c) s) ⊢ |={Set.univ}=> iprop(
      (bigSep Finset.univ fun i : Fin ((K (F := F)).nSub 0) => loan m d (oldOf m d) (Fin.cast nCore_two c) (Fin.cast nSub_sixteen i))
      ∗ ((bigSep Finset.univ fun i : Fin ((K (F := F)).nSub 0) => loan m d (newOf m d) (Fin.cast nCore_two c) (Fin.cast nSub_sixteen i))
          -∗ bigSep Finset.univ fun s => loan m d (newOf m d) (Fin.cast nCore_two c) s))
  rw [over_subs (F := F) (fun s => loan m d (oldOf m d) (Fin.cast nCore_two c) s), over_subs (F := F) (fun s => loan m d (newOf m d) (Fin.cast nCore_two c) s)]
  iintro H; imodintro
  isplitl [H]; · iexact H
  iintro H; iexact H

/-! ## The launch's ghost state -/

def u₀ : UU := (initOf (K (F := F)).hsCells (K (F := F)).hsToks, 1)

/-- A product of nothing is nothing. -/
theorem nothing {I : Type} (s : Finset I) : (bigSep s fun _ => iprop(emp)) = (iprop(emp) : sProp 𝕄) := bigSep_emp_const s

/-- The launch's initial ghost state gives the handshake's and the counters' parts. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [nothing]; iempintro
  unfold P; dsimp only
  simp only [nothing]
  iempintro

/-! ## The program on the host -/

/-- The host's buffers at the launch, -/
def V0 (d : Dev nD) : Valuation τ sig (Elt F) := fun b => m (d, b)
/-- at the call, -/
def V1 (d : Dev nD) : Valuation τ sig (Elt F) := after lead (V0 m d)
/-- after it, -/
def V2 (d : Dev nD) : Valuation τ sig (Elt F) := Function.update (V1 m d) (at' main_v4) (newOf m d)
/-- and at the end. -/
def V3 (d : Dev nD) : Valuation τ sig (Elt F) := (last (F := F)).result (V2 m d)

/-- After the call the output array holds the new contents. -/
theorem V2_v4 (d : Dev nD) : V2 m d (at' main_v4) = newOf m d := Function.update_self _ _ _
/-- The call changes no other array. -/
theorem V2_ne (d : Dev nD) (r : Ref sig .tc) (h : at' r ≠ at' main_v4) : V2 m d (at' r) = V1 m d (at' r) := Function.update_of_ne h _ _

/-- What the call takes is what its subcores are lent, -/
theorem taken_before (d : Dev nD) [∀ e, Nonempty (Elt F e)] :
    (held (SparseCore.T d) taken (V1 m d) : sProp 𝕄) = bigSep Finset.univ fun c : Fin ((K (F := F)).nCore 0) => (P m).st 0 d c := by
  rw [held_taken]
  unfold V1
  rw [lead_v0, lead_v1, lead_v2, lead_v3, lead_v4, arrays_deal]
  exact Eq.trans (bigSep_congr fun c _ => bigSep_congr fun s _ => (loan_eq m d (oldOf m d) c s).symm)
    (over_cores (F := F) (fun c => bigSep Finset.univ fun s => loan m d (oldOf m d) c s)).symm

/-- and so is what it gives back. -/
theorem taken_after (d : Dev nD) [∀ e, Nonempty (Elt F e)] :
    (held (SparseCore.T d) taken (V2 m d) : sProp 𝕄) = bigSep Finset.univ fun c : Fin ((K (F := F)).nCore 0) => (P m).dn 0 d c := by
  rw [held_taken, V2_v4, V2_ne m d _ (by decide), V2_ne m d _ (by decide), V2_ne m d _ (by decide), V2_ne m d _ (by decide)]
  unfold V1
  rw [lead_v0, lead_v1, lead_v2, lead_v3, arrays_deal]
  exact Eq.trans (bigSep_congr fun c _ => bigSep_congr fun s _ => (loan_eq m d (newOf m d) c s).symm)
    (over_cores (F := F) (fun c => bigSep Finset.univ fun s => loan m d (newOf m d) c s)).symm

/-- The rest is as it was. -/
theorem rest_after (d : Dev nD) : (held (SparseCore.T d) (mine \ taken) (V1 m d) : sProp 𝕄) = held (SparseCore.T d) (mine \ taken) (V2 m d) :=
  held_congr _ fun b hb => (Function.update_of_ne (fun e => (Finset.mem_sdiff.mp hb).2 (by rw [e]; exact Finset.mem_image_of_mem _ (by decide))) _ _).symm

/-- What is left for the claim: the arguments as they were, the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v5 ↦{fullShare} (turnedBack (newOf m d) : Vec F S16384x200 .i32)))

/-- At the end the arguments and the result are as the claim says. -/
theorem told_end (d : Dev nD) : (held (SparseCore.T d) told (V3 m d) : sProp 𝕄) = FIN m d := by
  rw [held_told]
  unfold V3
  rw [last_v5, V2_v4]
  simp only [last_ne _ main_arg0 (by decide), last_ne _ main_arg1 (by decide), last_ne _ main_arg2 (by decide), last_ne _ main_arg3 (by decide)]
  rw [V2_ne m d _ (by decide), V2_ne m d _ (by decide), V2_ne m d _ (by decide), V2_ne m d _ (by decide)]
  unfold V1
  rw [lead_arg0, lead_arg1, lead_arg2, lead_arg3]
  rfl

/-- The host program, from the arrays as they were, ends with the result and the arguments as claimed. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) mine (V0 m d) from unscoped_held d (V0 m d), main_eq]
  iintro ⟨#Hctx, Hst, ⟨Hb, Hheld, Hts, -⟩, -⟩
  iapply (wp_seq 𝒱 none Set.univ d mine _ lead lead_mine lead_fresh (V0 m d)) $$ [Hb Hheld]
  · isplitl [Hb]; · iexact Hb
    iexact Hheld
  iintro ⟨Hb, Hheld⟩
  ihave Hh := (Entails.of_eq (show (held d.tc mine (after lead (V0 m d)) : sProp 𝕄) = iprop(held (SparseCore.T d) taken (V1 m d) ∗ held (SparseCore.T d) (mine \ taken) (V1 m d)) from held_sub_split (SparseCore.T d) taken_mine (V1 m d))) $$ Hheld
  icases Hh with ⟨Hin, Hrest⟩
  rw [wp_bind]
  iapply ((K (F := F)).wp_run (D (F := F)) 𝒱 (EH := EH) (P := P m) κ d 0) $$ [Hst Hin Hb Hrest Hts]
  isplitr; · iexact Hctx
  isplitl [Hst]; · iexact Hst
  isplitl [Hin]
  · rw [← taken_before]; iexact Hin
  iintro ⟨Hst, Hout⟩
  ihave Hout := (Entails.of_eq (taken_after m d).symm) $$ Hout
  ihave Hrest := (Entails.of_eq (rest_after m d)) $$ Hrest
  rw [wp_bind]
  iapply (wp_hlo_within 𝒱 (SparseCore.T d) none Set.univ (op := last) (S := mine) last_mine (V := V2 m d)) $$ [Hb Hout Hrest]
  · isplitl [Hb]; · iexact Hb
    rw [held_sub_split (SparseCore.T d) taken_mine (V2 m d)]
    isplitl [Hout]; · iexact Hout
    iexact Hrest
  iintro ⟨Hb, Hheld⟩
  ihave Hh := (Entails.of_eq (show (held (SparseCore.T d) mine ((last (F := F)).result (V2 m d)) : sProp 𝕄) = iprop(held (SparseCore.T d) told (V3 m d) ∗ held (SparseCore.T d) (mine \ told) (V3 m d)) from held_sub_split (SparseCore.T d) told_mine (V3 m d))) $$ Hheld
  icases Hh with ⟨Hfin, -⟩
  ihave Hfin := (Entails.of_eq (told_end m d)) $$ Hfin
  rw [wp_ret]; imodintro
  rw [wp_pure]; imodintro
  isplitl [Hst]; · iexact Hst
  isplitl [Hfin]; · iexact Hfin
  isplitl [Hb] <;> iassumption

/-! ## The run -/

/-- What the claim reads off the memory at the end. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_v5) = (turnedBack (newOf m d) : Vec F S16384x200 .i32)

/-- An array held whole is in memory what it is held to be. -/
theorem whole_agrees (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h : iprop((ℓ ↦{fullShare} f) ∗ SI s') ⊢ (⌜s'.mem.mem ℓ = f⌝ : sProp 𝕄) := by
    iintro ⟨Hx, HSI⟩
    ihave H := (SI_pointsTo_agree (st := s') (ℓ := ℓ) (I := Finset.univ) (q := fullShare) (f := f)) $$ [HSI Hx]
    · isplitl [HSI] <;> iassumption
    icases H with %hx
    ipureintro; exact funext fun i => hx i (Finset.mem_univ i)
  refine (persistent_entails_right h).trans ?_
  iintro ⟨%hx, -, HSI⟩
  isplitr; · ipureintro; exact hx
  iexact HSI

/-- What the host program ends with, read off the final memory. -/
theorem hfin (d : Dev nD) (s' : Phys nD τ sig (Elt F)) : iprop(FIN m d ∗ SI s') ⊢ (⌜fq m d s'⌝ : sProp 𝕄) := by
  iintro ⟨⟨H0, H1, H2, H3, H5⟩, HSI⟩
  ihave H := (whole_agrees _ _ s') $$ [H0 HSI]
  · isplitl [H0] <;> iassumption
  icases H with ⟨%h0, HSI⟩
  ihave H := (whole_agrees _ _ s') $$ [H1 HSI]
  · isplitl [H1] <;> iassumption
  icases H with ⟨%h1, HSI⟩
  ihave H := (whole_agrees _ _ s') $$ [H2 HSI]
  · isplitl [H2] <;> iassumption
  icases H with ⟨%h2, HSI⟩
  ihave H := (whole_agrees _ _ s') $$ [H3 HSI]
  · isplitl [H3] <;> iassumption
  icases H with ⟨%h3, HSI⟩
  ihave H := (whole_agrees _ _ s') $$ [H5 HSI]
  · isplitl [H5] <;> iassumption
  icases H with ⟨%h5, -⟩
  ipureintro; exact ⟨h0, h1, h2, h3, h5⟩

/-- How the program ends: on every device the arguments as they were and the result in place; every semaphore at zero. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)
    ∧ r.2.mem ((SparseCore.T d).loc main_v5) = (turnedBack (newOf m d) : Vec F S16384x200 .i32)) ∧ r.2.sem = fun _ => 0

/-- The run of the whole program. -/
theorem run_main [∀ e, Nonempty (Elt F e)] (hm : Small m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Alias
-- ==== Proof.Agree.lean ====
/-
  The mathematics of the two programs: what the kernel's run leaves and what the reference computes are one array.
-/
module

public import proofs.«01_k».proof.Proof.Launch
public import proofs.«01_k».proof.Proof.Gen.ReferenceIdeal
public import proofs.«01_k».proof.Proof.Gen.Pre_index_in_vocab
public import Idealize.ShloMosaic.Lib.ValueIdxCore
public import Idealize.ShloMosaic.Lib.KernelVsHost
public import Idealize.ShloMosaic.Lib.Pipeline.Value

@[expose] public section

noncomputable section

namespace Cert.Proof.Alias

open Cert.KernelIdeal Cert.KernelIdeal.Gen
open Idealize.ShloMosaic Idealize.ShloMosaic.ValueIdx

variable {F : FTy → Type} [FloatOps F]

/-! ## The index range -/

/-- A word the precondition admits, read as a number. -/
theorem small_word (v : BitVec 32) (e : IntOp.andi (IntOp.cmpi .sge v 0#32) (IntOp.cmpi .slt v 1000#32) = 1#1) : v.toNat < 1000 := by
  have both (p q : Bool) (h : IntOp.andi (BitVec.ofBool p) (BitVec.ofBool q) = 1#1) : p = true ∧ q = true := by
    revert h; cases p <;> cases q <;> decide
  obtain ⟨h0, h1⟩ := both _ _ e
  simp only [BitVec.sle_eq_decide, BitVec.slt_eq_decide, decide_eq_true_eq, BitVec.toInt_eq_toNat_cond, BitVec.toNat_ofNat] at h0 h1
  omega

/-- Every index names an entry of the tables. -/
def InRange (x : Vec F S16384x200 .i32) : Prop := ∀ z, (x z : BitVec 32).toNat < 1000

/-- The precondition, true at every place, says that every index is in range. -/
theorem inRange_of_pre (p : Vec F S1000 .f32) (a : Vec F S1000 .i32) (x : Vec F S16384x200 .i32) (y : Vec F S16384x200 .f32)
    (h : Cert.Pre_index_in_vocab.fn (F := F) p a x y = fun _ => 1#1) : InRange x := fun z => by
  have e := congrFun h z
  simp only [Cert.Pre_index_in_vocab.fn, andi, cmpi, broadcastInDim, constantI] at e
  exact small_word _ e

/-! ## What both compute -/

variable (p : Vec F S1000 .f32) (a : Vec F S1000 .i32) (x : Vec F S16384x200 .i32) (y : Vec F S16384x200 .f32) (hx : InRange x)

/-- The index where the draw is under the index's threshold, else the index's replacement. -/
def sampled : Vec F S16384x200 .i32 := fun z =>
  Scalar.select (FloatOps.cmpf .olt (y z) (p (ix1 ⟨(x z : BitVec 32).toNat, hx z⟩))) (x z) (a (ix1 ⟨(x z : BitVec 32).toNat, hx z⟩))

/-! ## The kernel -/

/-- The place of an entry in the turned arrays. -/
def flip (z : S16384x200.Idx) : S200x16384.Idx := ix2 (z 1) (z 0)

/-- The turned array at the flipped place is the array at the place. -/
theorem turned_flip {α : Type} (f : S16384x200.Idx → α) (z : S16384x200.Idx) : turned f (flip z) = f z :=
  transpose_apply _ f _ (flip z) z fun b => match b with | ⟨0, _⟩ => rfl | ⟨1, _⟩ => rfl
/-- The array turned back, at a place, is the array at the flipped place. -/
theorem turnedBack_at {α : Type} (f : S200x16384.Idx → α) (z : S16384x200.Idx) : turnedBack f z = f (flip z) :=
  transpose_apply _ f _ z (flip z) fun b => match b with | ⟨0, _⟩ => rfl | ⟨1, _⟩ => rfl

/-- A padded table read at an index below 1000 gives the table's own entry. -/
theorem padded_at {α : Type} (f : S1000.Idx → α) {u : Shape} (v : u.Idx → α) (hu : 0 < u.numel) (w : BitVec 32) (hw : w.toNat < 1000) :
    pad S1024 ![0] ![24] ![0] f v pads_S1000_S1024_0240 hu (lane w) = f (ix1 ⟨w.toNat, hw⟩) :=
  pad_apply_of_inside _ _ _ f v _ hu _ _ fun b => by
    obtain rfl : b = 0 := Subsingleton.elim _ _
    show w.toNat % 1024 = 0 + w.toNat * (0 + 1)
    omega

/-- What the kernel leaves, turned back to the caller's layout, is the sampled array. -/
theorem kernel_value : turnedBack (result (probPad p) (aliasPad a) (turned x) (turned y)) = sampled p a x y hx := by
  funext z
  rw [turnedBack_at]
  unfold result pick sampled probPad aliasPad
  rw [turned_flip, turned_flip, padded_at _ _ _ _ (hx z), padded_at _ _ _ _ (hx z)]

/-- The kernel's own condition on the turned indices. -/
theorem turned_small (hx : InRange x) (z : S200x16384.Idx) : (turned x z : BitVec 32).toNat < 1024 :=
  (show (turned x z : BitVec 32).toNat < 1000 from hx _).trans (by decide)

/-! ## The reference -/

section Reference

open Cert.ReferenceIdeal.Gen

/-- The indices as the reference prepares them: a negative one counted from the end. -/
def wrapped : Vec F S16384x200 .i32 :=
  select (cmpi .slt x (broadcastInDim S16384x200 ![] bcast_S_S16384x200 (constantI S_ 32 0#32)))
    (addi x (broadcastInDim S16384x200 ![] bcast_S_S16384x200 (constantI S_ 32 1000#32))) x

/-- A word below 1000 is not negative as a signed number. -/
theorem not_negative (v : BitVec 32) (h : v.toNat < 1000) : IntOp.cmpi .slt v 0#32 = 0#1 := by
  have e : v.slt 0#32 = false := by
    simp only [BitVec.slt_eq_decide, decide_eq_false_iff_not, BitVec.toInt_eq_toNat_cond, BitVec.toNat_ofNat]
    omega
  show BitVec.ofBool (v.slt 0#32) = 0#1
  rw [e]; rfl

/-- No index in range is counted from the end. -/
theorem wrapped_eq (hx : InRange x) : wrapped x = x := by
  funext z
  show Scalar.select (IntOp.cmpi .slt (x z) 0#32) _ (x z) = x z
  rw [not_negative _ (hx z)]; rfl

/-- The reference's gather at an index in range gives the table's entry of that index. -/
theorem looked_up {α : Type} (f : S1000.Idx → α) (z : S16384x200.Idx) :
    Host.gather Cert.ReferenceIdeal.gather_S1000_S16384x200x1_S16384x200_n_0_n_n_0_2_1 f
      (broadcastInDim Cert.ReferenceIdeal.S16384x200x1 ![0, 1] bcast_S16384x200_S16384x200x1_0_1 x) z = f (ix1 ⟨(x z : BitVec 32).toNat, hx z⟩) := by
  refine (gather_take_apply (by decide) gather_S1000_S16384x200x1_S16384x200_n_0_n_n_0_2_1_wf f _ z).trans ?_
  refine congrArg f (congrArg ix1 (Fin.ext ?_))
  have e : broadcastInDim Cert.ReferenceIdeal.S16384x200x1 ![0, 1] bcast_S16384x200_S16384x200x1_0_1 x (takeIdx z) = x z :=
    congrArg x (funext fun b => match b with | ⟨0, _⟩ => rfl | ⟨1, _⟩ => rfl)
  have h := hx z
  show min (BitVec.toInt (broadcastInDim _ _ _ x (takeIdx z))).toNat (1000 - 1) = (x z : BitVec 32).toNat
  rw [e, BitVec.toInt_eq_toNat_cond]
  omega

/-- What the reference computes is the sampled array. -/
theorem reference_value :
    select (cmpf .olt y (Host.gather Cert.ReferenceIdeal.gather_S1000_S16384x200x1_S16384x200_n_0_n_n_0_2_1 p
        (broadcastInDim Cert.ReferenceIdeal.S16384x200x1 ![0, 1] bcast_S16384x200_S16384x200x1_0_1 (wrapped x)))) x
      (Host.gather Cert.ReferenceIdeal.gather_S1000_S16384x200x1_S16384x200_n_0_n_n_0_2_1 a
        (broadcastInDim Cert.ReferenceIdeal.S16384x200x1 ![0, 1] bcast_S16384x200_S16384x200x1_0_1 (wrapped x))) = sampled p a x y hx := by
  rw [wrapped_eq x hx]
  funext z
  show Scalar.select (FloatOps.cmpf .olt (y z) (Host.gather _ p _ z)) (x z) (Host.gather _ a _ z) = _
  rw [looked_up x hx, looked_up x hx]; rfl

end Reference

end Cert.Proof.Alias
-- ==== Proof.lean ====
/-
  The certificate of the alias-table sampler. From every memory whose indices lie in [0, 1000), the kernel and its
  idealization run, leave the four arguments as they were and every semaphore at zero. Over the extended reals the
  kernel's result is the reference's.
-/
module

public import proofs.«01_k».proof.Defs
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_index_in_vocab
public import Idealize.ShloMosaic.Adequacy
public import Idealize.ShloMosaic.Init

@[expose] public section

noncomputable section

namespace Cert.Proof

open Idealize.ShloMosaic Idealize.SL.Sem Cert.Proof.Alias

/-- Indices in range give the kernel's run its condition, at either reading of the floats. -/
theorem small_of_inRange {F : FTy → Type} [FloatOps F]
    (m : (ℓ : Loc Cert.KernelIdeal.nD Cert.KernelIdeal.τ Cert.KernelIdeal.sig) → Buf (Elt F) ℓ)
    (h : ∀ c, InRange (F := F) (m ((SparseCore.T c).loc Cert.KernelIdeal.main_arg2))) : Small m :=
  fun c z => turned_small _ (h c) z

/-- The program as it is: it runs, and leaves its arguments and the semaphores as they were. -/
theorem frame_kernel : Cert.quiescent_Kernel := fun m g h =>
  (θ_run (Cert.KernelIdeal.defs (F := Bits)) _ _).mono
    (fun _ q => ⟨fun c => ⟨(q.1 c).1, (q.1 c).2.1, (q.1 c).2.2.1, (q.1 c).2.2.2.1⟩, q.2⟩)
    (run_main (F := Bits) m g (small_of_inRange m fun c => inRange_of_pre _ _ _ _ (h c)))

/-- The same of the program over the extended reals. -/
theorem frame_ideal : Cert.quiescent_KernelIdeal := fun m g h =>
  (θ_run (Cert.KernelIdeal.defs (F := Ideal)) _ _).mono
    (fun _ q => ⟨fun c => ⟨(q.1 c).1, (q.1 c).2.1, (q.1 c).2.2.1, (q.1 c).2.2.2.1⟩, q.2⟩)
    (run_main (F := Ideal) m g (small_of_inRange m fun c => inRange_of_pre _ _ _ _ (h c)))

/-- The reference runs and leaves its arguments as they were; it has no semaphores. -/
theorem frame_reference : Cert.quiescent_ReferenceIdeal := fun m g _ =>
  (θ_run (Cert.ReferenceIdeal.defs (F := Ideal)) _ _).mono
    (fun r q => ⟨fun c => (q c).2, sem_eq_zero_of_no_sems (by decide) r.2⟩)
    (Cert.ReferenceIdeal.Value.run (F := Ideal) m g)

/-- From equal arguments with indices in range, the kernel's result and the reference's are one array. -/
theorem same_samples : Cert.algebraic_KernelIdeal_ReferenceIdeal := fun m g m' g' h hagree => by
  have hx : ∀ c, InRange (F := Ideal) (m ((SparseCore.T c).loc Cert.KernelIdeal.main_arg2)) := fun c => inRange_of_pre _ _ _ _ (h c)
  refine ⟨fun c => turnedBack (newOf m c), (θ_run (Cert.KernelIdeal.defs (F := Ideal)) _ _).mono
    (fun _ q c => ⟨(q.1 c).2.2.2.2, (q.1 c).1, (q.1 c).2.1, (q.1 c).2.2.1, (q.1 c).2.2.2.1⟩)
    (run_main (F := Ideal) m g (small_of_inRange m hx)), (θ_run (Cert.ReferenceIdeal.defs (F := Ideal)) _ _).mono
    (fun _ q c => ⟨(q c).1.trans ?_, (q c).2⟩) (Cert.ReferenceIdeal.Value.run (F := Ideal) m' g')⟩
  obtain ⟨e0, e1, e2, e3⟩ := hagree c
  rw [e0, e1, e2, e3]
  exact (reference_value _ _ _ _ (hx c)).trans (kernel_value _ _ _ _ (hx c)).symm

/-- All the claims together. -/
theorem claim : Cert.Claim :=
  ⟨Cert.Kernel.Gen.facts, Cert.KernelIdeal.Gen.facts, Cert.ReferenceIdeal.Gen.facts, Cert.Pre_index_in_vocab.Gen.facts,
    frame_kernel, frame_ideal, frame_reference, fun m g _ => frame_reference m g trivial, trivial, same_samples⟩

end Cert.Proof

end
